-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x512x512 : Shape := ⟨4, ![16, 1, 512, 512]⟩
abbrev S3x256 : Shape := ⟨2, ![3, 256]⟩
abbrev S768 : Shape := ⟨1, ![768]⟩
abbrev S16x3x512x512 : Shape := ⟨4, ![16, 3, 512, 512]⟩
abbrev S32x512 : Shape := ⟨2, ![32, 512]⟩
abbrev S96x512 : Shape := ⟨2, ![96, 512]⟩
abbrev S_ : Shape := ⟨0, ![]⟩
abbrev S16x512 : Shape := ⟨2, ![16, 512]⟩
abbrev S1x1x16x512 : Shape := ⟨4, ![1, 1, 16, 512]⟩
abbrev S16 : Shape := ⟨1, ![16]⟩
abbrev S1x16 : Shape := ⟨2, ![1, 16]⟩

abbrev nBuf : Table → Nat
  | .hbm => 4
  | .local .scVector .vmem => 3
  | _ => 0

abbrev bufTy : (tb : Table) → Fin (nBuf tb) → BufTy
  | .hbm, ⟨0, _⟩ => ⟨S16x1x512x512, .i32⟩
  | .hbm, ⟨1, _⟩ => ⟨S3x256, .f32⟩
  | .hbm, ⟨2, _⟩ => ⟨S768, .f32⟩
  | .hbm, ⟨3, _⟩ => ⟨S16x3x512x512, .f32⟩
  | .local .scVector .vmem, ⟨0, _⟩ => ⟨S768, .f32⟩
  | .local .scVector .vmem, ⟨1, _⟩ => ⟨S32x512, .i32⟩
  | .local .scVector .vmem, ⟨2, _⟩ => ⟨S96x512, .f32⟩
  | _, _ => ⟨S16x1x512x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_11 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let c0_i32_14 : BitVec 32 := 0#32
  ![v18.toNat, 0, v29.toNat, 0]
def k0_off2 (i : grid0.Coords) (c16_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_18 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v36 : BitVec 32 := Scalar.addi v29 c16_i32
  let c0_i32_21 : BitVec 32 := 0#32
  ![v18.toNat, 0, v36.toNat, 0]
@[reducible] def k0_t1_loop : Scf.Loop 32 :=
  let c0_i32_32 : BitVec 32 := 0#32
  let c512_i32 : BitVec 32 := 512#32
  let v49 : BitVec 32 := Scalar.addi c0_i32_32 c512_i32
  let c1_i32_33 : BitVec 32 := 1#32
  ⟨c0_i32_32, v49, c1_i32_33⟩
def k0_off3 (k0_t1 : Fin k0_t1_loop.trips) : Fin 2 → Nat :=
  let c0_i32_1021 : BitVec 32 := 0#32
  let c0_i32_1019 : BitVec 32 := 0#32
  let c0_i32_32 : BitVec 32 := 0#32
  let c1_i32_33 : BitVec 32 := 1#32
  let arg12 : BitVec 32 := Scf.iv c0_i32_32 c1_i32_33 k0_t1
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c0_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk1 (v891 : IVec S16 32) : Prop :=
  (∀ a x, ((![v891] : Fin 1 → IVec S16 32) a x).toNat < S768.size a)
theorem k0_idx1_inb : ∀ (v891 : IVec S16 32) (k0_hw1 : k0_chk1 v891), ∀ a x, ((![v891] : Fin 1 → IVec S16 32) a x).toNat < S768.size a := fun v891 k0_hw1 => k0_hw1
def k0_off4 (k0_t1 : Fin k0_t1_loop.trips) : Fin 2 → Nat :=
  let c0_i32_1024 : BitVec 32 := 0#32
  let c0_i32_1019 : BitVec 32 := 0#32
  let c0_i32_32 : BitVec 32 := 0#32
  let c1_i32_33 : BitVec 32 := 1#32
  let arg12 : BitVec 32 := Scf.iv c0_i32_32 c1_i32_33 k0_t1
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c0_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk2 (v898 : IVec S16 32) : Prop :=
  (∀ a x, ((![v898] : Fin 1 → IVec S16 32) a x).toNat < S768.size a)
theorem k0_idx2_inb : ∀ (v898 : IVec S16 32) (k0_hw2 : k0_chk2 v898), ∀ a x, ((![v898] : Fin 1 → IVec S16 32) a x).toNat < S768.size a := fun v898 k0_hw2 => k0_hw2
def k0_off5 (k0_t1 : Fin k0_t1_loop.trips) : Fin 2 → Nat :=
  let c16_i32_1026 : BitVec 32 := 16#32
  let c0_i32_1019 : BitVec 32 := 0#32
  let c0_i32_32 : BitVec 32 := 0#32
  let c1_i32_33 : BitVec 32 := 1#32
  let arg12 : BitVec 32 := Scf.iv c0_i32_32 c1_i32_33 k0_t1
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c16_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk3 (v905 : IVec S16 32) : Prop :=
  (∀ a x, ((![v905] : Fin 1 → IVec S16 32) a x).toNat < S768.size a)
theorem k0_idx3_inb : ∀ (v905 : IVec S16 32) (k0_hw3 : k0_chk3 v905), ∀ a x, ((![v905] : Fin 1 → IVec S16 32) a x).toNat < S768.size a := fun v905 k0_hw3 => k0_hw3
def k0_off6 (k0_t1 : Fin k0_t1_loop.trips) : Fin 2 → Nat :=
  let c32_i32_1028 : BitVec 32 := 32#32
  let c0_i32_1019 : BitVec 32 := 0#32
  let c0_i32_32 : BitVec 32 := 0#32
  let c1_i32_33 : BitVec 32 := 1#32
  let arg12 : BitVec 32 := Scf.iv c0_i32_32 c1_i32_33 k0_t1
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c32_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
def k0_off7 (i : grid0.Coords) (c0_i32_35 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_36 : BitVec 32 := 0#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v50 : BitVec 32 := Scalar.addi v29 c0_i32_35
  let c0_i32_39 : BitVec 32 := 0#32
  ![v18.toNat, 0, v50.toNat, 0]
def k0_off8 (i : grid0.Coords) (c0_i32_43 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c1_i32_44 : BitVec 32 := 1#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v57 : BitVec 32 := Scalar.addi v29 c0_i32_43
  let c0_i32_47 : BitVec 32 := 0#32
  ![v18.toNat, 1, v57.toNat, 0]
def k0_off9 (i : grid0.Coords) (c0_i32_51 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_52 : BitVec 32 := 2#32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v64 : BitVec 32 := Scalar.addi v29 c0_i32_51
  let c0_i32_54 : BitVec 32 := 0#32
  ![v18.toNat, 2, v64.toNat, 0]
@[reducible] def k0_t2_loop : Scf.Loop 32 :=
  let c0_i32_73 : BitVec 32 := 0#32
  let c512_i32_74 : BitVec 32 := 512#32
  let v84 : BitVec 32 := Scalar.addi c0_i32_73 c512_i32_74
  let c1_i32_75 : BitVec 32 := 1#32
  ⟨c0_i32_73, v84, c1_i32_75⟩
def k0_off10 (k0_t2 : Fin k0_t2_loop.trips) : Fin 2 → Nat :=
  let c16_i32_1021 : BitVec 32 := 16#32
  let c0_i32_1019 : BitVec 32 := 0#32
  let c0_i32_73 : BitVec 32 := 0#32
  let c1_i32_75 : BitVec 32 := 1#32
  let arg12 : BitVec 32 := Scf.iv c0_i32_73 c1_i32_75 k0_t2
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c16_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk4 (v891 : IVec S16 32) : Prop :=
  (∀ a x, ((![v891] : Fin 1 → IVec S16 32) a x).toNat < S768.size a)
theorem k0_idx4_inb : ∀ (v891 : IVec S16 32) (k0_hw4 : k0_chk4 v891), ∀ a x, ((![v891] : Fin 1 → IVec S16 32) a x).toNat < S768.size a := fun v891 k0_hw4 => k0_hw4
def k0_off11 (k0_t2 : Fin k0_t2_loop.trips) : Fin 2 → Nat :=
  let c48_i32_1024 : BitVec 32 := 48#32
  let c0_i32_1019 : BitVec 32 := 0#32
  let c0_i32_73 : BitVec 32 := 0#32
  let c1_i32_75 : BitVec 32 := 1#32
  let arg12 : BitVec 32 := Scf.iv c0_i32_73 c1_i32_75 k0_t2
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c48_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk5 (v898 : IVec S16 32) : Prop :=
  (∀ a x, ((![v898] : Fin 1 → IVec S16 32) a x).toNat < S768.size a)
theorem k0_idx5_inb : ∀ (v898 : IVec S16 32) (k0_hw5 : k0_chk5 v898), ∀ a x, ((![v898] : Fin 1 → IVec S16 32) a x).toNat < S768.size a := fun v898 k0_hw5 => k0_hw5
def k0_off12 (k0_t2 : Fin k0_t2_loop.trips) : Fin 2 → Nat :=
  let c64_i32_1026 : BitVec 32 := 64#32
  let c0_i32_1019 : BitVec 32 := 0#32
  let c0_i32_73 : BitVec 32 := 0#32
  let c1_i32_75 : BitVec 32 := 1#32
  let arg12 : BitVec 32 := Scf.iv c0_i32_73 c1_i32_75 k0_t2
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c64_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk6 (v905 : IVec S16 32) : Prop :=
  (∀ a x, ((![v905] : Fin 1 → IVec S16 32) a x).toNat < S768.size a)
theorem k0_idx6_inb : ∀ (v905 : IVec S16 32) (k0_hw6 : k0_chk6 v905), ∀ a x, ((![v905] : Fin 1 → IVec S16 32) a x).toNat < S768.size a := fun v905 k0_hw6 => k0_hw6
def k0_off13 (k0_t2 : Fin k0_t2_loop.trips) : Fin 2 → Nat :=
  let c80_i32_1028 : BitVec 32 := 80#32
  let c0_i32_1019 : BitVec 32 := 0#32
  let c0_i32_73 : BitVec 32 := 0#32
  let c1_i32_75 : BitVec 32 := 1#32
  let arg12 : BitVec 32 := Scf.iv c0_i32_73 c1_i32_75 k0_t2
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c80_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t3_loop : Scf.Loop 32 :=
  let c0_i32_134 : BitVec 32 := 0#32
  let c512_i32_135 : BitVec 32 := 512#32
  let v137 : BitVec 32 := Scalar.addi c0_i32_134 c512_i32_135
  let c1_i32_136 : BitVec 32 := 1#32
  ⟨c0_i32_134, v137, c1_i32_136⟩
def k0_off14 (k0_t3 : Fin k0_t3_loop.trips) : Fin 2 → Nat :=
  let c0_i32_1021 : BitVec 32 := 0#32
  let c0_i32_1019 : BitVec 32 := 0#32
  let c0_i32_134 : BitVec 32 := 0#32
  let c1_i32_136 : BitVec 32 := 1#32
  let arg12 : BitVec 32 := Scf.iv c0_i32_134 c1_i32_136 k0_t3
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c0_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk7 (v891 : IVec S16 32) : Prop :=
  (∀ a x, ((![v891] : Fin 1 → IVec S16 32) a x).toNat < S768.size a)
theorem k0_idx7_inb : ∀ (v891 : IVec S16 32) (k0_hw7 : k0_chk7 v891), ∀ a x, ((![v891] : Fin 1 → IVec S16 32) a x).toNat < S768.size a := fun v891 k0_hw7 => k0_hw7
def k0_off15 (k0_t3 : Fin k0_t3_loop.trips) : Fin 2 → Nat :=
  let c0_i32_1024 : BitVec 32 := 0#32
  let c0_i32_1019 : BitVec 32 := 0#32
  let c0_i32_134 : BitVec 32 := 0#32
  let c1_i32_136 : BitVec 32 := 1#32
  let arg12 : BitVec 32 := Scf.iv c0_i32_134 c1_i32_136 k0_t3
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c0_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk8 (v898 : IVec S16 32) : Prop :=
  (∀ a x, ((![v898] : Fin 1 → IVec S16 32) a x).toNat < S768.size a)
theorem k0_idx8_inb : ∀ (v898 : IVec S16 32) (k0_hw8 : k0_chk8 v898), ∀ a x, ((![v898] : Fin 1 → IVec S16 32) a x).toNat < S768.size a := fun v898 k0_hw8 => k0_hw8
def k0_off16 (k0_t3 : Fin k0_t3_loop.trips) : Fin 2 → Nat :=
  let c16_i32_1026 : BitVec 32 := 16#32
  let c0_i32_1019 : BitVec 32 := 0#32
  let c0_i32_134 : BitVec 32 := 0#32
  let c1_i32_136 : BitVec 32 := 1#32
  let arg12 : BitVec 32 := Scf.iv c0_i32_134 c1_i32_136 k0_t3
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c16_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk9 (v905 : IVec S16 32) : Prop :=
  (∀ a x, ((![v905] : Fin 1 → IVec S16 32) a x).toNat < S768.size a)
theorem k0_idx9_inb : ∀ (v905 : IVec S16 32) (k0_hw9 : k0_chk9 v905), ∀ a x, ((![v905] : Fin 1 → IVec S16 32) a x).toNat < S768.size a := fun v905 k0_hw9 => k0_hw9
def k0_off17 (k0_t3 : Fin k0_t3_loop.trips) : Fin 2 → Nat :=
  let c32_i32_1028 : BitVec 32 := 32#32
  let c0_i32_1019 : BitVec 32 := 0#32
  let c0_i32_134 : BitVec 32 := 0#32
  let c1_i32_136 : BitVec 32 := 1#32
  let arg12 : BitVec 32 := Scf.iv c0_i32_134 c1_i32_136 k0_t3
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c32_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t4_loop : Scf.Loop 32 :=
  let c0_i32_198 : BitVec 32 := 0#32
  let c512_i32_199 : BitVec 32 := 512#32
  let v190 : BitVec 32 := Scalar.addi c0_i32_198 c512_i32_199
  let c1_i32_200 : BitVec 32 := 1#32
  ⟨c0_i32_198, v190, c1_i32_200⟩
def k0_off18 (k0_t4 : Fin k0_t4_loop.trips) : Fin 2 → Nat :=
  let c16_i32_1021 : BitVec 32 := 16#32
  let c0_i32_1019 : BitVec 32 := 0#32
  let c0_i32_198 : BitVec 32 := 0#32
  let c1_i32_200 : BitVec 32 := 1#32
  let arg12 : BitVec 32 := Scf.iv c0_i32_198 c1_i32_200 k0_t4
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c16_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk10 (v891 : IVec S16 32) : Prop :=
  (∀ a x, ((![v891] : Fin 1 → IVec S16 32) a x).toNat < S768.size a)
theorem k0_idx10_inb : ∀ (v891 : IVec S16 32) (k0_hw10 : k0_chk10 v891), ∀ a x, ((![v891] : Fin 1 → IVec S16 32) a x).toNat < S768.size a := fun v891 k0_hw10 => k0_hw10
def k0_off19 (k0_t4 : Fin k0_t4_loop.trips) : Fin 2 → Nat :=
  let c48_i32_1024 : BitVec 32 := 48#32
  let c0_i32_1019 : BitVec 32 := 0#32
  let c0_i32_198 : BitVec 32 := 0#32
  let c1_i32_200 : BitVec 32 := 1#32
  let arg12 : BitVec 32 := Scf.iv c0_i32_198 c1_i32_200 k0_t4
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c48_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk11 (v898 : IVec S16 32) : Prop :=
  (∀ a x, ((![v898] : Fin 1 → IVec S16 32) a x).toNat < S768.size a)
theorem k0_idx11_inb : ∀ (v898 : IVec S16 32) (k0_hw11 : k0_chk11 v898), ∀ a x, ((![v898] : Fin 1 → IVec S16 32) a x).toNat < S768.size a := fun v898 k0_hw11 => k0_hw11
def k0_off20 (k0_t4 : Fin k0_t4_loop.trips) : Fin 2 → Nat :=
  let c64_i32_1026 : BitVec 32 := 64#32
  let c0_i32_1019 : BitVec 32 := 0#32
  let c0_i32_198 : BitVec 32 := 0#32
  let c1_i32_200 : BitVec 32 := 1#32
  let arg12 : BitVec 32 := Scf.iv c0_i32_198 c1_i32_200 k0_t4
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c64_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk12 (v905 : IVec S16 32) : Prop :=
  (∀ a x, ((![v905] : Fin 1 → IVec S16 32) a x).toNat < S768.size a)
theorem k0_idx12_inb : ∀ (v905 : IVec S16 32) (k0_hw12 : k0_chk12 v905), ∀ a x, ((![v905] : Fin 1 → IVec S16 32) a x).toNat < S768.size a := fun v905 k0_hw12 => k0_hw12
def k0_off21 (k0_t4 : Fin k0_t4_loop.trips) : Fin 2 → Nat :=
  let c80_i32_1028 : BitVec 32 := 80#32
  let c0_i32_1019 : BitVec 32 := 0#32
  let c0_i32_198 : BitVec 32 := 0#32
  let c1_i32_200 : BitVec 32 := 1#32
  let arg12 : BitVec 32 := Scf.iv c0_i32_198 c1_i32_200 k0_t4
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c80_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t5_loop : Scf.Loop 32 :=
  let c0_i32_262 : BitVec 32 := 0#32
  let c512_i32_263 : BitVec 32 := 512#32
  let v243 : BitVec 32 := Scalar.addi c0_i32_262 c512_i32_263
  let c1_i32_264 : BitVec 32 := 1#32
  ⟨c0_i32_262, v243, c1_i32_264⟩
def k0_off22 (k0_t5 : Fin k0_t5_loop.trips) : Fin 2 → Nat :=
  let c0_i32_1021 : BitVec 32 := 0#32
  let c0_i32_1019 : BitVec 32 := 0#32
  let c0_i32_262 : BitVec 32 := 0#32
  let c1_i32_264 : BitVec 32 := 1#32
  let arg12 : BitVec 32 := Scf.iv c0_i32_262 c1_i32_264 k0_t5
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c0_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk13 (v891 : IVec S16 32) : Prop :=
  (∀ a x, ((![v891] : Fin 1 → IVec S16 32) a x).toNat < S768.size a)
theorem k0_idx13_inb : ∀ (v891 : IVec S16 32) (k0_hw13 : k0_chk13 v891), ∀ a x, ((![v891] : Fin 1 → IVec S16 32) a x).toNat < S768.size a := fun v891 k0_hw13 => k0_hw13
def k0_off23 (k0_t5 : Fin k0_t5_loop.trips) : Fin 2 → Nat :=
  let c0_i32_1024 : BitVec 32 := 0#32
  let c0_i32_1019 : BitVec 32 := 0#32
  let c0_i32_262 : BitVec 32 := 0#32
  let c1_i32_264 : BitVec 32 := 1#32
  let arg12 : BitVec 32 := Scf.iv c0_i32_262 c1_i32_264 k0_t5
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c0_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk14 (v898 : IVec S16 32) : Prop :=
  (∀ a x, ((![v898] : Fin 1 → IVec S16 32) a x).toNat < S768.size a)
theorem k0_idx14_inb : ∀ (v898 : IVec S16 32) (k0_hw14 : k0_chk14 v898), ∀ a x, ((![v898] : Fin 1 → IVec S16 32) a x).toNat < S768.size a := fun v898 k0_hw14 => k0_hw14
def k0_off24 (k0_t5 : Fin k0_t5_loop.trips) : Fin 2 → Nat :=
  let c16_i32_1026 : BitVec 32 := 16#32
  let c0_i32_1019 : BitVec 32 := 0#32
  let c0_i32_262 : BitVec 32 := 0#32
  let c1_i32_264 : BitVec 32 := 1#32
  let arg12 : BitVec 32 := Scf.iv c0_i32_262 c1_i32_264 k0_t5
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c16_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk15 (v905 : IVec S16 32) : Prop :=
  (∀ a x, ((![v905] : Fin 1 → IVec S16 32) a x).toNat < S768.size a)
theorem k0_idx15_inb : ∀ (v905 : IVec S16 32) (k0_hw15 : k0_chk15 v905), ∀ a x, ((![v905] : Fin 1 → IVec S16 32) a x).toNat < S768.size a := fun v905 k0_hw15 => k0_hw15
def k0_off25 (k0_t5 : Fin k0_t5_loop.trips) : Fin 2 → Nat :=
  let c32_i32_1028 : BitVec 32 := 32#32
  let c0_i32_1019 : BitVec 32 := 0#32
  let c0_i32_262 : BitVec 32 := 0#32
  let c1_i32_264 : BitVec 32 := 1#32
  let arg12 : BitVec 32 := Scf.iv c0_i32_262 c1_i32_264 k0_t5
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c32_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t6_loop : Scf.Loop 32 :=
  let c0_i32_325 : BitVec 32 := 0#32
  let c512_i32_326 : BitVec 32 := 512#32
  let v296 : BitVec 32 := Scalar.addi c0_i32_325 c512_i32_326
  let c1_i32_327 : BitVec 32 := 1#32
  ⟨c0_i32_325, v296, c1_i32_327⟩
def k0_off26 (k0_t6 : Fin k0_t6_loop.trips) : Fin 2 → Nat :=
  let c16_i32_1021 : BitVec 32 := 16#32
  let c0_i32_1019 : BitVec 32 := 0#32
  let c0_i32_325 : BitVec 32 := 0#32
  let c1_i32_327 : BitVec 32 := 1#32
  let arg12 : BitVec 32 := Scf.iv c0_i32_325 c1_i32_327 k0_t6
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c16_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk16 (v891 : IVec S16 32) : Prop :=
  (∀ a x, ((![v891] : Fin 1 → IVec S16 32) a x).toNat < S768.size a)
theorem k0_idx16_inb : ∀ (v891 : IVec S16 32) (k0_hw16 : k0_chk16 v891), ∀ a x, ((![v891] : Fin 1 → IVec S16 32) a x).toNat < S768.size a := fun v891 k0_hw16 => k0_hw16
def k0_off27 (k0_t6 : Fin k0_t6_loop.trips) : Fin 2 → Nat :=
  let c48_i32_1024 : BitVec 32 := 48#32
  let c0_i32_1019 : BitVec 32 := 0#32
  let c0_i32_325 : BitVec 32 := 0#32
  let c1_i32_327 : BitVec 32 := 1#32
  let arg12 : BitVec 32 := Scf.iv c0_i32_325 c1_i32_327 k0_t6
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c48_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk17 (v898 : IVec S16 32) : Prop :=
  (∀ a x, ((![v898] : Fin 1 → IVec S16 32) a x).toNat < S768.size a)
theorem k0_idx17_inb : ∀ (v898 : IVec S16 32) (k0_hw17 : k0_chk17 v898), ∀ a x, ((![v898] : Fin 1 → IVec S16 32) a x).toNat < S768.size a := fun v898 k0_hw17 => k0_hw17
def k0_off28 (k0_t6 : Fin k0_t6_loop.trips) : Fin 2 → Nat :=
  let c64_i32_1026 : BitVec 32 := 64#32
  let c0_i32_1019 : BitVec 32 := 0#32
  let c0_i32_325 : BitVec 32 := 0#32
  let c1_i32_327 : BitVec 32 := 1#32
  let arg12 : BitVec 32 := Scf.iv c0_i32_325 c1_i32_327 k0_t6
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c64_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk18 (v905 : IVec S16 32) : Prop :=
  (∀ a x, ((![v905] : Fin 1 → IVec S16 32) a x).toNat < S768.size a)
theorem k0_idx18_inb : ∀ (v905 : IVec S16 32) (k0_hw18 : k0_chk18 v905), ∀ a x, ((![v905] : Fin 1 → IVec S16 32) a x).toNat < S768.size a := fun v905 k0_hw18 => k0_hw18
def k0_off29 (k0_t6 : Fin k0_t6_loop.trips) : Fin 2 → Nat :=
  let c80_i32_1028 : BitVec 32 := 80#32
  let c0_i32_1019 : BitVec 32 := 0#32
  let c0_i32_325 : BitVec 32 := 0#32
  let c1_i32_327 : BitVec 32 := 1#32
  let arg12 : BitVec 32 := Scf.iv c0_i32_325 c1_i32_327 k0_t6
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c80_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t7_loop : Scf.Loop 32 :=
  let c0_i32_388 : BitVec 32 := 0#32
  let c512_i32_389 : BitVec 32 := 512#32
  let v349 : BitVec 32 := Scalar.addi c0_i32_388 c512_i32_389
  let c1_i32_390 : BitVec 32 := 1#32
  ⟨c0_i32_388, v349, c1_i32_390⟩
def k0_off30 (k0_t7 : Fin k0_t7_loop.trips) : Fin 2 → Nat :=
  let c0_i32_1021 : BitVec 32 := 0#32
  let c0_i32_1019 : BitVec 32 := 0#32
  let c0_i32_388 : BitVec 32 := 0#32
  let c1_i32_390 : BitVec 32 := 1#32
  let arg12 : BitVec 32 := Scf.iv c0_i32_388 c1_i32_390 k0_t7
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c0_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk19 (v891 : IVec S16 32) : Prop :=
  (∀ a x, ((![v891] : Fin 1 → IVec S16 32) a x).toNat < S768.size a)
theorem k0_idx19_inb : ∀ (v891 : IVec S16 32) (k0_hw19 : k0_chk19 v891), ∀ a x, ((![v891] : Fin 1 → IVec S16 32) a x).toNat < S768.size a := fun v891 k0_hw19 => k0_hw19
def k0_off31 (k0_t7 : Fin k0_t7_loop.trips) : Fin 2 → Nat :=
  let c0_i32_1024 : BitVec 32 := 0#32
  let c0_i32_1019 : BitVec 32 := 0#32
  let c0_i32_388 : BitVec 32 := 0#32
  let c1_i32_390 : BitVec 32 := 1#32
  let arg12 : BitVec 32 := Scf.iv c0_i32_388 c1_i32_390 k0_t7
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c0_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk20 (v898 : IVec S16 32) : Prop :=
  (∀ a x, ((![v898] : Fin 1 → IVec S16 32) a x).toNat < S768.size a)
theorem k0_idx20_inb : ∀ (v898 : IVec S16 32) (k0_hw20 : k0_chk20 v898), ∀ a x, ((![v898] : Fin 1 → IVec S16 32) a x).toNat < S768.size a := fun v898 k0_hw20 => k0_hw20
def k0_off32 (k0_t7 : Fin k0_t7_loop.trips) : Fin 2 → Nat :=
  let c16_i32_1026 : BitVec 32 := 16#32
  let c0_i32_1019 : BitVec 32 := 0#32
  let c0_i32_388 : BitVec 32 := 0#32
  let c1_i32_390 : BitVec 32 := 1#32
  let arg12 : BitVec 32 := Scf.iv c0_i32_388 c1_i32_390 k0_t7
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c16_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk21 (v905 : IVec S16 32) : Prop :=
  (∀ a x, ((![v905] : Fin 1 → IVec S16 32) a x).toNat < S768.size a)
theorem k0_idx21_inb : ∀ (v905 : IVec S16 32) (k0_hw21 : k0_chk21 v905), ∀ a x, ((![v905] : Fin 1 → IVec S16 32) a x).toNat < S768.size a := fun v905 k0_hw21 => k0_hw21
def k0_off33 (k0_t7 : Fin k0_t7_loop.trips) : Fin 2 → Nat :=
  let c32_i32_1028 : BitVec 32 := 32#32
  let c0_i32_1019 : BitVec 32 := 0#32
  let c0_i32_388 : BitVec 32 := 0#32
  let c1_i32_390 : BitVec 32 := 1#32
  let arg12 : BitVec 32 := Scf.iv c0_i32_388 c1_i32_390 k0_t7
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c32_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t8_loop : Scf.Loop 32 :=
  let c0_i32_451 : BitVec 32 := 0#32
  let c512_i32_452 : BitVec 32 := 512#32
  let v402 : BitVec 32 := Scalar.addi c0_i32_451 c512_i32_452
  let c1_i32_453 : BitVec 32 := 1#32
  ⟨c0_i32_451, v402, c1_i32_453⟩
def k0_off34 (k0_t8 : Fin k0_t8_loop.trips) : Fin 2 → Nat :=
  let c16_i32_1021 : BitVec 32 := 16#32
  let c0_i32_1019 : BitVec 32 := 0#32
  let c0_i32_451 : BitVec 32 := 0#32
  let c1_i32_453 : BitVec 32 := 1#32
  let arg12 : BitVec 32 := Scf.iv c0_i32_451 c1_i32_453 k0_t8
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c16_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk22 (v891 : IVec S16 32) : Prop :=
  (∀ a x, ((![v891] : Fin 1 → IVec S16 32) a x).toNat < S768.size a)
theorem k0_idx22_inb : ∀ (v891 : IVec S16 32) (k0_hw22 : k0_chk22 v891), ∀ a x, ((![v891] : Fin 1 → IVec S16 32) a x).toNat < S768.size a := fun v891 k0_hw22 => k0_hw22
def k0_off35 (k0_t8 : Fin k0_t8_loop.trips) : Fin 2 → Nat :=
  let c48_i32_1024 : BitVec 32 := 48#32
  let c0_i32_1019 : BitVec 32 := 0#32
  let c0_i32_451 : BitVec 32 := 0#32
  let c1_i32_453 : BitVec 32 := 1#32
  let arg12 : BitVec 32 := Scf.iv c0_i32_451 c1_i32_453 k0_t8
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c48_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk23 (v898 : IVec S16 32) : Prop :=
  (∀ a x, ((![v898] : Fin 1 → IVec S16 32) a x).toNat < S768.size a)
theorem k0_idx23_inb : ∀ (v898 : IVec S16 32) (k0_hw23 : k0_chk23 v898), ∀ a x, ((![v898] : Fin 1 → IVec S16 32) a x).toNat < S768.size a := fun v898 k0_hw23 => k0_hw23
def k0_off36 (k0_t8 : Fin k0_t8_loop.trips) : Fin 2 → Nat :=
  let c64_i32_1026 : BitVec 32 := 64#32
  let c0_i32_1019 : BitVec 32 := 0#32
  let c0_i32_451 : BitVec 32 := 0#32
  let c1_i32_453 : BitVec 32 := 1#32
  let arg12 : BitVec 32 := Scf.iv c0_i32_451 c1_i32_453 k0_t8
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c64_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk24 (v905 : IVec S16 32) : Prop :=
  (∀ a x, ((![v905] : Fin 1 → IVec S16 32) a x).toNat < S768.size a)
theorem k0_idx24_inb : ∀ (v905 : IVec S16 32) (k0_hw24 : k0_chk24 v905), ∀ a x, ((![v905] : Fin 1 → IVec S16 32) a x).toNat < S768.size a := fun v905 k0_hw24 => k0_hw24
def k0_off37 (k0_t8 : Fin k0_t8_loop.trips) : Fin 2 → Nat :=
  let c80_i32_1028 : BitVec 32 := 80#32
  let c0_i32_1019 : BitVec 32 := 0#32
  let c0_i32_451 : BitVec 32 := 0#32
  let c1_i32_453 : BitVec 32 := 1#32
  let arg12 : BitVec 32 := Scf.iv c0_i32_451 c1_i32_453 k0_t8
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c80_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t9_loop : Scf.Loop 32 :=
  let c0_i32_514 : BitVec 32 := 0#32
  let c512_i32_515 : BitVec 32 := 512#32
  let v455 : BitVec 32 := Scalar.addi c0_i32_514 c512_i32_515
  let c1_i32_516 : BitVec 32 := 1#32
  ⟨c0_i32_514, v455, c1_i32_516⟩
def k0_off38 (k0_t9 : Fin k0_t9_loop.trips) : Fin 2 → Nat :=
  let c0_i32_1021 : BitVec 32 := 0#32
  let c0_i32_1019 : BitVec 32 := 0#32
  let c0_i32_514 : BitVec 32 := 0#32
  let c1_i32_516 : BitVec 32 := 1#32
  let arg12 : BitVec 32 := Scf.iv c0_i32_514 c1_i32_516 k0_t9
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c0_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk25 (v891 : IVec S16 32) : Prop :=
  (∀ a x, ((![v891] : Fin 1 → IVec S16 32) a x).toNat < S768.size a)
theorem k0_idx25_inb : ∀ (v891 : IVec S16 32) (k0_hw25 : k0_chk25 v891), ∀ a x, ((![v891] : Fin 1 → IVec S16 32) a x).toNat < S768.size a := fun v891 k0_hw25 => k0_hw25
def k0_off39 (k0_t9 : Fin k0_t9_loop.trips) : Fin 2 → Nat :=
  let c0_i32_1024 : BitVec 32 := 0#32
  let c0_i32_1019 : BitVec 32 := 0#32
  let c0_i32_514 : BitVec 32 := 0#32
  let c1_i32_516 : BitVec 32 := 1#32
  let arg12 : BitVec 32 := Scf.iv c0_i32_514 c1_i32_516 k0_t9
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c0_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk26 (v898 : IVec S16 32) : Prop :=
  (∀ a x, ((![v898] : Fin 1 → IVec S16 32) a x).toNat < S768.size a)
theorem k0_idx26_inb : ∀ (v898 : IVec S16 32) (k0_hw26 : k0_chk26 v898), ∀ a x, ((![v898] : Fin 1 → IVec S16 32) a x).toNat < S768.size a := fun v898 k0_hw26 => k0_hw26
def k0_off40 (k0_t9 : Fin k0_t9_loop.trips) : Fin 2 → Nat :=
  let c16_i32_1026 : BitVec 32 := 16#32
  let c0_i32_1019 : BitVec 32 := 0#32
  let c0_i32_514 : BitVec 32 := 0#32
  let c1_i32_516 : BitVec 32 := 1#32
  let arg12 : BitVec 32 := Scf.iv c0_i32_514 c1_i32_516 k0_t9
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c16_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk27 (v905 : IVec S16 32) : Prop :=
  (∀ a x, ((![v905] : Fin 1 → IVec S16 32) a x).toNat < S768.size a)
theorem k0_idx27_inb : ∀ (v905 : IVec S16 32) (k0_hw27 : k0_chk27 v905), ∀ a x, ((![v905] : Fin 1 → IVec S16 32) a x).toNat < S768.size a := fun v905 k0_hw27 => k0_hw27
def k0_off41 (k0_t9 : Fin k0_t9_loop.trips) : Fin 2 → Nat :=
  let c32_i32_1028 : BitVec 32 := 32#32
  let c0_i32_1019 : BitVec 32 := 0#32
  let c0_i32_514 : BitVec 32 := 0#32
  let c1_i32_516 : BitVec 32 := 1#32
  let arg12 : BitVec 32 := Scf.iv c0_i32_514 c1_i32_516 k0_t9
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c32_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t10_loop : Scf.Loop 32 :=
  let c0_i32_577 : BitVec 32 := 0#32
  let c512_i32_578 : BitVec 32 := 512#32
  let v508 : BitVec 32 := Scalar.addi c0_i32_577 c512_i32_578
  let c1_i32_579 : BitVec 32 := 1#32
  ⟨c0_i32_577, v508, c1_i32_579⟩
def k0_off42 (k0_t10 : Fin k0_t10_loop.trips) : Fin 2 → Nat :=
  let c16_i32_1021 : BitVec 32 := 16#32
  let c0_i32_1019 : BitVec 32 := 0#32
  let c0_i32_577 : BitVec 32 := 0#32
  let c1_i32_579 : BitVec 32 := 1#32
  let arg12 : BitVec 32 := Scf.iv c0_i32_577 c1_i32_579 k0_t10
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c16_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk28 (v891 : IVec S16 32) : Prop :=
  (∀ a x, ((![v891] : Fin 1 → IVec S16 32) a x).toNat < S768.size a)
theorem k0_idx28_inb : ∀ (v891 : IVec S16 32) (k0_hw28 : k0_chk28 v891), ∀ a x, ((![v891] : Fin 1 → IVec S16 32) a x).toNat < S768.size a := fun v891 k0_hw28 => k0_hw28
def k0_off43 (k0_t10 : Fin k0_t10_loop.trips) : Fin 2 → Nat :=
  let c48_i32_1024 : BitVec 32 := 48#32
  let c0_i32_1019 : BitVec 32 := 0#32
  let c0_i32_577 : BitVec 32 := 0#32
  let c1_i32_579 : BitVec 32 := 1#32
  let arg12 : BitVec 32 := Scf.iv c0_i32_577 c1_i32_579 k0_t10
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c48_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk29 (v898 : IVec S16 32) : Prop :=
  (∀ a x, ((![v898] : Fin 1 → IVec S16 32) a x).toNat < S768.size a)
theorem k0_idx29_inb : ∀ (v898 : IVec S16 32) (k0_hw29 : k0_chk29 v898), ∀ a x, ((![v898] : Fin 1 → IVec S16 32) a x).toNat < S768.size a := fun v898 k0_hw29 => k0_hw29
def k0_off44 (k0_t10 : Fin k0_t10_loop.trips) : Fin 2 → Nat :=
  let c64_i32_1026 : BitVec 32 := 64#32
  let c0_i32_1019 : BitVec 32 := 0#32
  let c0_i32_577 : BitVec 32 := 0#32
  let c1_i32_579 : BitVec 32 := 1#32
  let arg12 : BitVec 32 := Scf.iv c0_i32_577 c1_i32_579 k0_t10
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c64_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk30 (v905 : IVec S16 32) : Prop :=
  (∀ a x, ((![v905] : Fin 1 → IVec S16 32) a x).toNat < S768.size a)
theorem k0_idx30_inb : ∀ (v905 : IVec S16 32) (k0_hw30 : k0_chk30 v905), ∀ a x, ((![v905] : Fin 1 → IVec S16 32) a x).toNat < S768.size a := fun v905 k0_hw30 => k0_hw30
def k0_off45 (k0_t10 : Fin k0_t10_loop.trips) : Fin 2 → Nat :=
  let c80_i32_1028 : BitVec 32 := 80#32
  let c0_i32_1019 : BitVec 32 := 0#32
  let c0_i32_577 : BitVec 32 := 0#32
  let c1_i32_579 : BitVec 32 := 1#32
  let arg12 : BitVec 32 := Scf.iv c0_i32_577 c1_i32_579 k0_t10
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c80_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t11_loop : Scf.Loop 32 :=
  let c0_i32_640 : BitVec 32 := 0#32
  let c512_i32_641 : BitVec 32 := 512#32
  let v561 : BitVec 32 := Scalar.addi c0_i32_640 c512_i32_641
  let c1_i32_642 : BitVec 32 := 1#32
  ⟨c0_i32_640, v561, c1_i32_642⟩
def k0_off46 (k0_t11 : Fin k0_t11_loop.trips) : Fin 2 → Nat :=
  let c0_i32_1021 : BitVec 32 := 0#32
  let c0_i32_1019 : BitVec 32 := 0#32
  let c0_i32_640 : BitVec 32 := 0#32
  let c1_i32_642 : BitVec 32 := 1#32
  let arg12 : BitVec 32 := Scf.iv c0_i32_640 c1_i32_642 k0_t11
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c0_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk31 (v891 : IVec S16 32) : Prop :=
  (∀ a x, ((![v891] : Fin 1 → IVec S16 32) a x).toNat < S768.size a)
theorem k0_idx31_inb : ∀ (v891 : IVec S16 32) (k0_hw31 : k0_chk31 v891), ∀ a x, ((![v891] : Fin 1 → IVec S16 32) a x).toNat < S768.size a := fun v891 k0_hw31 => k0_hw31
def k0_off47 (k0_t11 : Fin k0_t11_loop.trips) : Fin 2 → Nat :=
  let c0_i32_1024 : BitVec 32 := 0#32
  let c0_i32_1019 : BitVec 32 := 0#32
  let c0_i32_640 : BitVec 32 := 0#32
  let c1_i32_642 : BitVec 32 := 1#32
  let arg12 : BitVec 32 := Scf.iv c0_i32_640 c1_i32_642 k0_t11
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c0_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk32 (v898 : IVec S16 32) : Prop :=
  (∀ a x, ((![v898] : Fin 1 → IVec S16 32) a x).toNat < S768.size a)
theorem k0_idx32_inb : ∀ (v898 : IVec S16 32) (k0_hw32 : k0_chk32 v898), ∀ a x, ((![v898] : Fin 1 → IVec S16 32) a x).toNat < S768.size a := fun v898 k0_hw32 => k0_hw32
def k0_off48 (k0_t11 : Fin k0_t11_loop.trips) : Fin 2 → Nat :=
  let c16_i32_1026 : BitVec 32 := 16#32
  let c0_i32_1019 : BitVec 32 := 0#32
  let c0_i32_640 : BitVec 32 := 0#32
  let c1_i32_642 : BitVec 32 := 1#32
  let arg12 : BitVec 32 := Scf.iv c0_i32_640 c1_i32_642 k0_t11
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c16_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk33 (v905 : IVec S16 32) : Prop :=
  (∀ a x, ((![v905] : Fin 1 → IVec S16 32) a x).toNat < S768.size a)
theorem k0_idx33_inb : ∀ (v905 : IVec S16 32) (k0_hw33 : k0_chk33 v905), ∀ a x, ((![v905] : Fin 1 → IVec S16 32) a x).toNat < S768.size a := fun v905 k0_hw33 => k0_hw33
def k0_off49 (k0_t11 : Fin k0_t11_loop.trips) : Fin 2 → Nat :=
  let c32_i32_1028 : BitVec 32 := 32#32
  let c0_i32_1019 : BitVec 32 := 0#32
  let c0_i32_640 : BitVec 32 := 0#32
  let c1_i32_642 : BitVec 32 := 1#32
  let arg12 : BitVec 32 := Scf.iv c0_i32_640 c1_i32_642 k0_t11
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c32_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t12_loop : Scf.Loop 32 :=
  let c0_i32_703 : BitVec 32 := 0#32
  let c512_i32_704 : BitVec 32 := 512#32
  let v614 : BitVec 32 := Scalar.addi c0_i32_703 c512_i32_704
  let c1_i32_705 : BitVec 32 := 1#32
  ⟨c0_i32_703, v614, c1_i32_705⟩
def k0_off50 (k0_t12 : Fin k0_t12_loop.trips) : Fin 2 → Nat :=
  let c16_i32_1021 : BitVec 32 := 16#32
  let c0_i32_1019 : BitVec 32 := 0#32
  let c0_i32_703 : BitVec 32 := 0#32
  let c1_i32_705 : BitVec 32 := 1#32
  let arg12 : BitVec 32 := Scf.iv c0_i32_703 c1_i32_705 k0_t12
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c16_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk34 (v891 : IVec S16 32) : Prop :=
  (∀ a x, ((![v891] : Fin 1 → IVec S16 32) a x).toNat < S768.size a)
theorem k0_idx34_inb : ∀ (v891 : IVec S16 32) (k0_hw34 : k0_chk34 v891), ∀ a x, ((![v891] : Fin 1 → IVec S16 32) a x).toNat < S768.size a := fun v891 k0_hw34 => k0_hw34
def k0_off51 (k0_t12 : Fin k0_t12_loop.trips) : Fin 2 → Nat :=
  let c48_i32_1024 : BitVec 32 := 48#32
  let c0_i32_1019 : BitVec 32 := 0#32
  let c0_i32_703 : BitVec 32 := 0#32
  let c1_i32_705 : BitVec 32 := 1#32
  let arg12 : BitVec 32 := Scf.iv c0_i32_703 c1_i32_705 k0_t12
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c48_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk35 (v898 : IVec S16 32) : Prop :=
  (∀ a x, ((![v898] : Fin 1 → IVec S16 32) a x).toNat < S768.size a)
theorem k0_idx35_inb : ∀ (v898 : IVec S16 32) (k0_hw35 : k0_chk35 v898), ∀ a x, ((![v898] : Fin 1 → IVec S16 32) a x).toNat < S768.size a := fun v898 k0_hw35 => k0_hw35
def k0_off52 (k0_t12 : Fin k0_t12_loop.trips) : Fin 2 → Nat :=
  let c64_i32_1026 : BitVec 32 := 64#32
  let c0_i32_1019 : BitVec 32 := 0#32
  let c0_i32_703 : BitVec 32 := 0#32
  let c1_i32_705 : BitVec 32 := 1#32
  let arg12 : BitVec 32 := Scf.iv c0_i32_703 c1_i32_705 k0_t12
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c64_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk36 (v905 : IVec S16 32) : Prop :=
  (∀ a x, ((![v905] : Fin 1 → IVec S16 32) a x).toNat < S768.size a)
theorem k0_idx36_inb : ∀ (v905 : IVec S16 32) (k0_hw36 : k0_chk36 v905), ∀ a x, ((![v905] : Fin 1 → IVec S16 32) a x).toNat < S768.size a := fun v905 k0_hw36 => k0_hw36
def k0_off53 (k0_t12 : Fin k0_t12_loop.trips) : Fin 2 → Nat :=
  let c80_i32_1028 : BitVec 32 := 80#32
  let c0_i32_1019 : BitVec 32 := 0#32
  let c0_i32_703 : BitVec 32 := 0#32
  let c1_i32_705 : BitVec 32 := 1#32
  let arg12 : BitVec 32 := Scf.iv c0_i32_703 c1_i32_705 k0_t12
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c80_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t13_loop : Scf.Loop 32 :=
  let c0_i32_766 : BitVec 32 := 0#32
  let c512_i32_767 : BitVec 32 := 512#32
  let v667 : BitVec 32 := Scalar.addi c0_i32_766 c512_i32_767
  let c1_i32_768 : BitVec 32 := 1#32
  ⟨c0_i32_766, v667, c1_i32_768⟩
def k0_off54 (k0_t13 : Fin k0_t13_loop.trips) : Fin 2 → Nat :=
  let c0_i32_1021 : BitVec 32 := 0#32
  let c0_i32_1019 : BitVec 32 := 0#32
  let c0_i32_766 : BitVec 32 := 0#32
  let c1_i32_768 : BitVec 32 := 1#32
  let arg12 : BitVec 32 := Scf.iv c0_i32_766 c1_i32_768 k0_t13
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c0_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk37 (v891 : IVec S16 32) : Prop :=
  (∀ a x, ((![v891] : Fin 1 → IVec S16 32) a x).toNat < S768.size a)
theorem k0_idx37_inb : ∀ (v891 : IVec S16 32) (k0_hw37 : k0_chk37 v891), ∀ a x, ((![v891] : Fin 1 → IVec S16 32) a x).toNat < S768.size a := fun v891 k0_hw37 => k0_hw37
def k0_off55 (k0_t13 : Fin k0_t13_loop.trips) : Fin 2 → Nat :=
  let c0_i32_1024 : BitVec 32 := 0#32
  let c0_i32_1019 : BitVec 32 := 0#32
  let c0_i32_766 : BitVec 32 := 0#32
  let c1_i32_768 : BitVec 32 := 1#32
  let arg12 : BitVec 32 := Scf.iv c0_i32_766 c1_i32_768 k0_t13
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c0_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk38 (v898 : IVec S16 32) : Prop :=
  (∀ a x, ((![v898] : Fin 1 → IVec S16 32) a x).toNat < S768.size a)
theorem k0_idx38_inb : ∀ (v898 : IVec S16 32) (k0_hw38 : k0_chk38 v898), ∀ a x, ((![v898] : Fin 1 → IVec S16 32) a x).toNat < S768.size a := fun v898 k0_hw38 => k0_hw38
def k0_off56 (k0_t13 : Fin k0_t13_loop.trips) : Fin 2 → Nat :=
  let c16_i32_1026 : BitVec 32 := 16#32
  let c0_i32_1019 : BitVec 32 := 0#32
  let c0_i32_766 : BitVec 32 := 0#32
  let c1_i32_768 : BitVec 32 := 1#32
  let arg12 : BitVec 32 := Scf.iv c0_i32_766 c1_i32_768 k0_t13
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c16_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk39 (v905 : IVec S16 32) : Prop :=
  (∀ a x, ((![v905] : Fin 1 → IVec S16 32) a x).toNat < S768.size a)
theorem k0_idx39_inb : ∀ (v905 : IVec S16 32) (k0_hw39 : k0_chk39 v905), ∀ a x, ((![v905] : Fin 1 → IVec S16 32) a x).toNat < S768.size a := fun v905 k0_hw39 => k0_hw39
def k0_off57 (k0_t13 : Fin k0_t13_loop.trips) : Fin 2 → Nat :=
  let c32_i32_1028 : BitVec 32 := 32#32
  let c0_i32_1019 : BitVec 32 := 0#32
  let c0_i32_766 : BitVec 32 := 0#32
  let c1_i32_768 : BitVec 32 := 1#32
  let arg12 : BitVec 32 := Scf.iv c0_i32_766 c1_i32_768 k0_t13
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c32_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t14_loop : Scf.Loop 32 :=
  let c0_i32_829 : BitVec 32 := 0#32
  let c512_i32_830 : BitVec 32 := 512#32
  let v720 : BitVec 32 := Scalar.addi c0_i32_829 c512_i32_830
  let c1_i32_831 : BitVec 32 := 1#32
  ⟨c0_i32_829, v720, c1_i32_831⟩
def k0_off58 (k0_t14 : Fin k0_t14_loop.trips) : Fin 2 → Nat :=
  let c16_i32_1021 : BitVec 32 := 16#32
  let c0_i32_1019 : BitVec 32 := 0#32
  let c0_i32_829 : BitVec 32 := 0#32
  let c1_i32_831 : BitVec 32 := 1#32
  let arg12 : BitVec 32 := Scf.iv c0_i32_829 c1_i32_831 k0_t14
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c16_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk40 (v891 : IVec S16 32) : Prop :=
  (∀ a x, ((![v891] : Fin 1 → IVec S16 32) a x).toNat < S768.size a)
theorem k0_idx40_inb : ∀ (v891 : IVec S16 32) (k0_hw40 : k0_chk40 v891), ∀ a x, ((![v891] : Fin 1 → IVec S16 32) a x).toNat < S768.size a := fun v891 k0_hw40 => k0_hw40
def k0_off59 (k0_t14 : Fin k0_t14_loop.trips) : Fin 2 → Nat :=
  let c48_i32_1024 : BitVec 32 := 48#32
  let c0_i32_1019 : BitVec 32 := 0#32
  let c0_i32_829 : BitVec 32 := 0#32
  let c1_i32_831 : BitVec 32 := 1#32
  let arg12 : BitVec 32 := Scf.iv c0_i32_829 c1_i32_831 k0_t14
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c48_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk41 (v898 : IVec S16 32) : Prop :=
  (∀ a x, ((![v898] : Fin 1 → IVec S16 32) a x).toNat < S768.size a)
theorem k0_idx41_inb : ∀ (v898 : IVec S16 32) (k0_hw41 : k0_chk41 v898), ∀ a x, ((![v898] : Fin 1 → IVec S16 32) a x).toNat < S768.size a := fun v898 k0_hw41 => k0_hw41
def k0_off60 (k0_t14 : Fin k0_t14_loop.trips) : Fin 2 → Nat :=
  let c64_i32_1026 : BitVec 32 := 64#32
  let c0_i32_1019 : BitVec 32 := 0#32
  let c0_i32_829 : BitVec 32 := 0#32
  let c1_i32_831 : BitVec 32 := 1#32
  let arg12 : BitVec 32 := Scf.iv c0_i32_829 c1_i32_831 k0_t14
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c64_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk42 (v905 : IVec S16 32) : Prop :=
  (∀ a x, ((![v905] : Fin 1 → IVec S16 32) a x).toNat < S768.size a)
theorem k0_idx42_inb : ∀ (v905 : IVec S16 32) (k0_hw42 : k0_chk42 v905), ∀ a x, ((![v905] : Fin 1 → IVec S16 32) a x).toNat < S768.size a := fun v905 k0_hw42 => k0_hw42
def k0_off61 (k0_t14 : Fin k0_t14_loop.trips) : Fin 2 → Nat :=
  let c80_i32_1028 : BitVec 32 := 80#32
  let c0_i32_1019 : BitVec 32 := 0#32
  let c0_i32_829 : BitVec 32 := 0#32
  let c1_i32_831 : BitVec 32 := 1#32
  let arg12 : BitVec 32 := Scf.iv c0_i32_829 c1_i32_831 k0_t14
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c80_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t15_loop : Scf.Loop 32 :=
  let c0_i32_892 : BitVec 32 := 0#32
  let c512_i32_893 : BitVec 32 := 512#32
  let v773 : BitVec 32 := Scalar.addi c0_i32_892 c512_i32_893
  let c1_i32_894 : BitVec 32 := 1#32
  ⟨c0_i32_892, v773, c1_i32_894⟩
def k0_off62 (k0_t15 : Fin k0_t15_loop.trips) : Fin 2 → Nat :=
  let c0_i32_1021 : BitVec 32 := 0#32
  let c0_i32_1019 : BitVec 32 := 0#32
  let c0_i32_892 : BitVec 32 := 0#32
  let c1_i32_894 : BitVec 32 := 1#32
  let arg12 : BitVec 32 := Scf.iv c0_i32_892 c1_i32_894 k0_t15
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c0_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk43 (v891 : IVec S16 32) : Prop :=
  (∀ a x, ((![v891] : Fin 1 → IVec S16 32) a x).toNat < S768.size a)
theorem k0_idx43_inb : ∀ (v891 : IVec S16 32) (k0_hw43 : k0_chk43 v891), ∀ a x, ((![v891] : Fin 1 → IVec S16 32) a x).toNat < S768.size a := fun v891 k0_hw43 => k0_hw43
def k0_off63 (k0_t15 : Fin k0_t15_loop.trips) : Fin 2 → Nat :=
  let c0_i32_1024 : BitVec 32 := 0#32
  let c0_i32_1019 : BitVec 32 := 0#32
  let c0_i32_892 : BitVec 32 := 0#32
  let c1_i32_894 : BitVec 32 := 1#32
  let arg12 : BitVec 32 := Scf.iv c0_i32_892 c1_i32_894 k0_t15
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c0_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk44 (v898 : IVec S16 32) : Prop :=
  (∀ a x, ((![v898] : Fin 1 → IVec S16 32) a x).toNat < S768.size a)
theorem k0_idx44_inb : ∀ (v898 : IVec S16 32) (k0_hw44 : k0_chk44 v898), ∀ a x, ((![v898] : Fin 1 → IVec S16 32) a x).toNat < S768.size a := fun v898 k0_hw44 => k0_hw44
def k0_off64 (k0_t15 : Fin k0_t15_loop.trips) : Fin 2 → Nat :=
  let c16_i32_1026 : BitVec 32 := 16#32
  let c0_i32_1019 : BitVec 32 := 0#32
  let c0_i32_892 : BitVec 32 := 0#32
  let c1_i32_894 : BitVec 32 := 1#32
  let arg12 : BitVec 32 := Scf.iv c0_i32_892 c1_i32_894 k0_t15
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c16_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk45 (v905 : IVec S16 32) : Prop :=
  (∀ a x, ((![v905] : Fin 1 → IVec S16 32) a x).toNat < S768.size a)
theorem k0_idx45_inb : ∀ (v905 : IVec S16 32) (k0_hw45 : k0_chk45 v905), ∀ a x, ((![v905] : Fin 1 → IVec S16 32) a x).toNat < S768.size a := fun v905 k0_hw45 => k0_hw45
def k0_off65 (k0_t15 : Fin k0_t15_loop.trips) : Fin 2 → Nat :=
  let c32_i32_1028 : BitVec 32 := 32#32
  let c0_i32_1019 : BitVec 32 := 0#32
  let c0_i32_892 : BitVec 32 := 0#32
  let c1_i32_894 : BitVec 32 := 1#32
  let arg12 : BitVec 32 := Scf.iv c0_i32_892 c1_i32_894 k0_t15
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c32_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
@[reducible] def k0_t16_loop : Scf.Loop 32 :=
  let c0_i32_948 : BitVec 32 := 0#32
  let c512_i32_949 : BitVec 32 := 512#32
  let v819 : BitVec 32 := Scalar.addi c0_i32_948 c512_i32_949
  let c1_i32_950 : BitVec 32 := 1#32
  ⟨c0_i32_948, v819, c1_i32_950⟩
def k0_off66 (k0_t16 : Fin k0_t16_loop.trips) : Fin 2 → Nat :=
  let c16_i32_1021 : BitVec 32 := 16#32
  let c0_i32_1019 : BitVec 32 := 0#32
  let c0_i32_948 : BitVec 32 := 0#32
  let c1_i32_950 : BitVec 32 := 1#32
  let arg12 : BitVec 32 := Scf.iv c0_i32_948 c1_i32_950 k0_t16
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v882 : BitVec 32 := Scalar.addi c16_i32_1021 v879
  let v883 : Index := Scalar.indexCast v882
  let c31_i32 : BitVec 32 := 31#32
  let v880 : BitVec 32 := Scalar.andi v878 c31_i32
  let c16_i32_1020 : BitVec 32 := 16#32
  let v881 : BitVec 32 := Scalar.muli v880 c16_i32_1020
  let v884 : Index := Scalar.indexCast v881
  ![v883.toNat, v884.toNat]

def k0_chk46 (v891 : IVec S16 32) : Prop :=
  (∀ a x, ((![v891] : Fin 1 → IVec S16 32) a x).toNat < S768.size a)
theorem k0_idx46_inb : ∀ (v891 : IVec S16 32) (k0_hw46 : k0_chk46 v891), ∀ a x, ((![v891] : Fin 1 → IVec S16 32) a x).toNat < S768.size a := fun v891 k0_hw46 => k0_hw46
def k0_off67 (k0_t16 : Fin k0_t16_loop.trips) : Fin 2 → Nat :=
  let c48_i32_1024 : BitVec 32 := 48#32
  let c0_i32_1019 : BitVec 32 := 0#32
  let c0_i32_948 : BitVec 32 := 0#32
  let c1_i32_950 : BitVec 32 := 1#32
  let arg12 : BitVec 32 := Scf.iv c0_i32_948 c1_i32_950 k0_t16
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v893 : BitVec 32 := Scalar.addi c48_i32_1024 v879
  let v894 : Index := Scalar.indexCast v893
  let c31_i32 : BitVec 32 := 31#32
  let v880 : BitVec 32 := Scalar.andi v878 c31_i32
  let c16_i32_1020 : BitVec 32 := 16#32
  let v881 : BitVec 32 := Scalar.muli v880 c16_i32_1020
  let v895 : Index := Scalar.indexCast v881
  ![v894.toNat, v895.toNat]

def k0_chk47 (v898 : IVec S16 32) : Prop :=
  (∀ a x, ((![v898] : Fin 1 → IVec S16 32) a x).toNat < S768.size a)
theorem k0_idx47_inb : ∀ (v898 : IVec S16 32) (k0_hw47 : k0_chk47 v898), ∀ a x, ((![v898] : Fin 1 → IVec S16 32) a x).toNat < S768.size a := fun v898 k0_hw47 => k0_hw47
def k0_off68 (k0_t16 : Fin k0_t16_loop.trips) : Fin 2 → Nat :=
  let c64_i32_1026 : BitVec 32 := 64#32
  let c0_i32_1019 : BitVec 32 := 0#32
  let c0_i32_948 : BitVec 32 := 0#32
  let c1_i32_950 : BitVec 32 := 1#32
  let arg12 : BitVec 32 := Scf.iv c0_i32_948 c1_i32_950 k0_t16
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v900 : BitVec 32 := Scalar.addi c64_i32_1026 v879
  let v901 : Index := Scalar.indexCast v900
  let c31_i32 : BitVec 32 := 31#32
  let v880 : BitVec 32 := Scalar.andi v878 c31_i32
  let c16_i32_1020 : BitVec 32 := 16#32
  let v881 : BitVec 32 := Scalar.muli v880 c16_i32_1020
  let v902 : Index := Scalar.indexCast v881
  ![v901.toNat, v902.toNat]

def k0_chk48 (v905 : IVec S16 32) : Prop :=
  (∀ a x, ((![v905] : Fin 1 → IVec S16 32) a x).toNat < S768.size a)
theorem k0_idx48_inb : ∀ (v905 : IVec S16 32) (k0_hw48 : k0_chk48 v905), ∀ a x, ((![v905] : Fin 1 → IVec S16 32) a x).toNat < S768.size a := fun v905 k0_hw48 => k0_hw48
def k0_off69 (k0_t16 : Fin k0_t16_loop.trips) : Fin 2 → Nat :=
  let c80_i32_1028 : BitVec 32 := 80#32
  let c0_i32_1019 : BitVec 32 := 0#32
  let c0_i32_948 : BitVec 32 := 0#32
  let c1_i32_950 : BitVec 32 := 1#32
  let arg12 : BitVec 32 := Scf.iv c0_i32_948 c1_i32_950 k0_t16
  let c1_i32_1018 : BitVec 32 := 1#32
  let v877 : BitVec 32 := Scalar.muli arg12 c1_i32_1018
  let v878 : BitVec 32 := Scalar.addi c0_i32_1019 v877
  let c5_i32 : BitVec 32 := 5#32
  let v879 : BitVec 32 := Scalar.shrsi v878 c5_i32
  let v907 : BitVec 32 := Scalar.addi c80_i32_1028 v879
  let v908 : Index := Scalar.indexCast v907
  let c31_i32 : BitVec 32 := 31#32
  let v880 : BitVec 32 := Scalar.andi v878 c31_i32
  let c16_i32_1020 : BitVec 32 := 16#32
  let v881 : BitVec 32 := Scalar.muli v880 c16_i32_1020
  let v909 : Index := Scalar.indexCast v881
  ![v908.toNat, v909.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1x512x512 : Shape := ⟨4, ![16, 1, 512, 512]⟩
abbrev S3x256 : Shape := ⟨2, ![3, 256]⟩
abbrev S16x512x512 : Shape := ⟨3, ![16, 512, 512]⟩
abbrev S255 : Shape := ⟨1, ![255]⟩
abbrev S16x512x512x1 : Shape := ⟨4, ![16, 512, 512, 1]⟩
abbrev S1x1x1x255 : Shape := ⟨4, ![1, 1, 1, 255]⟩
abbrev S16x512x512x255 : Shape := ⟨4, ![16, 512, 512, 255]⟩
abbrev S_ : Shape := ⟨0, ![]⟩
abbrev S3x16x512x512 : Shape := ⟨4, ![3, 16, 512, 512]⟩
abbrev S16x3x512x512 : Shape := ⟨4, ![16, 3, 512, 512]⟩

abbrev nBuf : Space → Nat
  | .hbm => 22
  | .vmem => 0
  | .smem => 0
  | _ => 0

abbrev bufTy : (tb : Table) → Fin (tcTables nBuf tb) → BufTy
  | .hbm, ⟨0, _⟩ => ⟨S16x1x512x512, .i32⟩
  | .hbm, ⟨1, _⟩ => ⟨S3x256, .f32⟩
  | .hbm, ⟨2, _⟩ => ⟨S16x512x512, .i32⟩
  | .hbm, ⟨3, _⟩ => ⟨S255, .i32⟩
  | .hbm, ⟨4, _⟩ => ⟨S16x512x512x1, .i32⟩
  | .hbm, ⟨5, _⟩ => ⟨S1x1x1x255, .i32⟩
  | .hbm, ⟨6, _⟩ => ⟨S16x512x512x255, .i32⟩
  | .hbm, ⟨7, _⟩ => ⟨S16x512x512x255, .i32⟩
  | .hbm, ⟨8, _⟩ => ⟨S16x512x512x255, .i1⟩
  | .hbm, ⟨9, _⟩ => ⟨S16x512x512x255, .i32⟩
  | .hbm, ⟨10, _⟩ => ⟨S_, .i32⟩
  | .hbm, ⟨11, _⟩ => ⟨S16x512x512, .i32⟩
  | .hbm, ⟨12, _⟩ => ⟨S_, .i32⟩
  | .hbm, ⟨13, _⟩ => ⟨S16x512x512, .i32⟩
  | .hbm, ⟨14, _⟩ => ⟨S16x512x512, .i1⟩
  | .hbm, ⟨15, _⟩ => ⟨S_, .i32⟩
  | .hbm, ⟨16, _⟩ => ⟨S16x512x512, .i32⟩
  | .hbm, ⟨17, _⟩ => ⟨S16x512x512, .i32⟩
  | .hbm, ⟨18, _⟩ => ⟨S16x512x512, .i32⟩
  | .hbm, ⟨19, _⟩ => ⟨S16x512x512x1, .i32⟩
  | .hbm, ⟨20, _⟩ => ⟨S3x16x512x512, .f32⟩
  | .hbm, ⟨21, _⟩ => ⟨S16x3x512x512, .f32⟩
  | _, _ => ⟨S16x1x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Body.lean ====
/-
  The kernel's body in pieces: the transfers of one chunk, the waits, the loop that fills a chunk's three planes, and
  the body itself as their sequence.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Body

open Cert.KernelIdeal Cert.KernelIdeal.Gen
open Idealize.ShloMosaic Idealize.SL.Sem

variable {F : FTy → Type} [FloatOps F]

/-! ## The arrays and their parts -/

abbrev xV : Memref sig .scVector .hbm S16x1x512x512 .i32 := Memref.whole main_arg0_scv
abbrev cV : Memref sig .scVector .hbm S768 .f32 := Memref.whole main_v0_scv
abbrev oV : Memref sig .scVector .hbm S16x3x512x512 .f32 := Memref.whole main_v1_scv
abbrev tV : Memref sig .scVector .vmem S768 .f32 := Memref.whole cc0_scratch0
abbrev iV : Memref sig .scVector .vmem S32x512 .i32 := Memref.whole cc0_scratch1
abbrev bV : Memref sig .scVector .vmem S96x512 .f32 := Memref.whole cc0_scratch2

/-- Where chunk `j` of a tile's rows of `x` begins. -/
def inOff (i : grid0.Coords) : Fin 16 → Fin 4 → Nat
  | ⟨0, _⟩ => k0_off1 i
  | ⟨r + 1, _⟩ => k0_off2 i (BitVec.ofNat 32 (16 + 16 * r))
theorem inOff_inb (i : grid0.Coords) : ∀ j a, inOff i j a + S1x1x16x512.size a ≤ S16x1x512x512.size a
  | ⟨0, _⟩ => k0_off1_inb i
  | ⟨r + 1, h⟩ => k0_off2_inb i ⟨r, Nat.lt_of_succ_lt_succ h⟩
/-- Where plane `ch` of chunk `j` of a tile's rows of the result begins. -/
def outOff (i : grid0.Coords) (j : Fin 16) : Fin 3 → Fin 4 → Nat
  | 0 => k0_off7 i (BitVec.ofNat 32 (16 * j.val))
  | 1 => k0_off8 i (BitVec.ofNat 32 (16 * j.val))
  | 2 => k0_off9 i (BitVec.ofNat 32 (16 * j.val))
theorem outOff_inb (i : grid0.Coords) (j : Fin 16) : ∀ ch a, outOff i j ch a + S1x1x16x512.size a ≤ S16x3x512x512.size a
  | 0 => k0_off7_inb i j
  | 1 => k0_off8_inb i j
  | 2 => k0_off9_inb i j
theorem iBuf_inb : ∀ (p : Fin 2) a, (![16 * p.val, 0] : Fin 2 → Nat) a + S16x512.size a ≤ S32x512.size a := by decide
theorem oBuf_inb : ∀ (p : Fin 2) (ch : Fin 3) a, (![16 * (3 * p.val + ch.val), 0] : Fin 2 → Nat) a + S16x512.size a ≤ S96x512.size a := by decide

/-- Chunk `j` of a tile's rows of `x`, 16 rows. -/
abbrev inRef (i : grid0.Coords) (j : Fin 16) : Memref sig .scVector .hbm S16x512 .i32 :=
  (xV.slice (Rect.unit (s := S16x1x512x512) (inOff i j) S1x1x16x512.size (inOff_inb i j)) (fun _ => rfl)).squeeze S16x512 squeezes_S1x1x16x512_S16x512
/-- Plane `ch` of chunk `j` of a tile's rows of the result, 16 rows. -/
abbrev outRef (i : grid0.Coords) (j : Fin 16) (ch : Fin 3) : Memref sig .scVector .hbm S16x512 .f32 :=
  (oV.slice (Rect.unit (s := S16x3x512x512) (outOff i j ch) S1x1x16x512.size (outOff_inb i j ch)) (fun _ => rfl)).squeeze S16x512 squeezes_S1x1x16x512_S16x512
/-- The half of the index scratch for chunks of parity `p`. -/
abbrev iBuf (p : Fin 2) : Memref sig .scVector .vmem S16x512 .i32 :=
  iV.slice (Rect.unit (s := S32x512) ![16 * p.val, 0] S16x512.size (iBuf_inb p)) (fun _ => rfl)
/-- The part of the result scratch for plane `ch` of chunks of parity `p`. -/
abbrev oBuf (p : Fin 2) (ch : Fin 3) : Memref sig .scVector .vmem S16x512 .f32 :=
  bV.slice (Rect.unit (s := S96x512) ![16 * (3 * p.val + ch.val), 0] S16x512.size (oBuf_inb p ch)) (fun _ => rfl)

def sIn : Fin 2 → DmaSems sig S_ | 0 => cc0_scratch3 | 1 => cc0_scratch4
def sOut : Fin 2 → DmaSems sig S_ | 0 => cc0_scratch5 | 1 => cc0_scratch6

theorem inRef_exact (i : grid0.Coords) (j : Fin 16) : (inRef i j).view.WordExact := (View.wordExact_bits rfl).reshape _ _
theorem outRef_exact (i : grid0.Coords) (j : Fin 16) (ch : Fin 3) : (outRef i j ch).view.WordExact := (View.wordExact_bits rfl).reshape _ _
theorem iBuf_exact (p : Fin 2) : (iBuf p).view.WordExact := View.wordExact_bits rfl
theorem oBuf_exact (p : Fin 2) (ch : Fin 3) : (oBuf p ch).view.WordExact := View.wordExact_bits rfl

/-! ## The pieces of the body -/

/-- The parity of a chunk. -/
def par (j : Fin 16) : Fin 2 := ⟨j.val % 2, Nat.mod_lt _ (by decide)⟩

/-- The programs of the vector subcore at grid coordinates `i`. -/
abbrev TProg (F : FTy → Type) [FloatOps F] (i : grid0.Coords) := Prog (TpuEff nD τ sig (Elt F) Λ₀ (.scVector ((i 0).castLE hcore0) ((i 1).castLE hsub0)))

/-- Start the read of chunk `j`. -/
def inStart (i : grid0.Coords) (j : Fin 16) : TProg F i PUnit :=
  Prog.lift (.enqueueDma (inRef i j) (.here (iBuf (par j))) (.dma (sIn (par j)).sem) (inRef_exact i j) (iBuf_exact _) ⟨Or.inl rfl, trivial⟩)
/-- Wait for the read of chunk `j`. -/
def inWait (i : grid0.Coords) (j : Fin 16) : TProg F i PUnit :=
  Prog.lift (.waitDma2 (sIn (par j)).sem (inRef i j) (iBuf (par j)) (inRef_exact i j) (iBuf_exact _))
/-- Start the write of plane `ch` of chunk `j`. -/
def outStart (i : grid0.Coords) (j : Fin 16) (ch : Fin 3) : TProg F i PUnit :=
  Prog.lift (.enqueueDma (oBuf (par j) ch) (.here (outRef i j ch)) (.dma (sOut (par j)).sem) (oBuf_exact _ _) (outRef_exact i j ch) ⟨Or.inl rfl, trivial⟩)
/-- Wait for the write of plane `ch` of chunk `j`. -/
def outWait (i : grid0.Coords) (j : Fin 16) (ch : Fin 3) : TProg F i PUnit :=
  Prog.lift (.waitDma2 (sOut (par j)).sem (oBuf (par j) ch) (outRef i j ch) (oBuf_exact _ _) (outRef_exact i j ch))

/-- Where trip `k` of a loop of parity `p` reads its 16 indices. -/
def offI : Fin 2 → Fin k0_t1_loop.trips → Fin 2 → Nat
  | 0, k => k0_off3 k
  | 1, k => k0_off10 k
theorem offI_inb : ∀ p k a, offI p k a + S1x16.size a ≤ S32x512.size a
  | 0, k => k0_off3_inb k
  | 1, k => k0_off10_inb k
/-- Where trip `k` of a loop of parity `p` writes the 16 words of plane `ch`. -/
def offO : Fin 2 → Fin 3 → Fin k0_t1_loop.trips → Fin 2 → Nat
  | 0, 0, k => k0_off4 k
  | 0, 1, k => k0_off5 k
  | 0, 2, k => k0_off6 k
  | 1, 0, k => k0_off11 k
  | 1, 1, k => k0_off12 k
  | 1, 2, k => k0_off13 k
theorem offO_inb : ∀ p ch k a, offO p ch k a + S1x16.size a ≤ S96x512.size a
  | 0, 0, k => k0_off4_inb k
  | 0, 1, k => k0_off5_inb k
  | 0, 2, k => k0_off6_inb k
  | 1, 0, k => k0_off11_inb k
  | 1, 1, k => k0_off12_inb k
  | 1, 2, k => k0_off13_inb k

/-- Sixteen words clipped to 0..255. -/
def clip16 (v : IVec S16 32) : IVec S16 32 := minsi (broadcast S16 255#32) (maxsi (broadcast S16 0#32) v)
/-- The word where plane `ch` begins in the table. -/
def base : Fin 3 → BitVec 32 | 0 => 0#32 | 1 => 256#32 | 2 => 512#32

/-- Trip `k`'s work for plane `ch`: gather the clipped indices' words of the plane, store them. -/
def lane (i : grid0.Coords) (p : Fin 2) (ch : Fin 3) (k : Fin k0_t1_loop.trips) (v : IVec S16 32) : TProg F i PUnit := do
  let hw ← Prog.lift (TpuEff.assume (k0_chk1 (addi v (broadcast S16 (base ch)))) (k0_chk1.dec (addi v (broadcast S16 (base ch)))))
  let g : Vec F S16 .f32 ← SparseCore.vectorLoadIdx tV ![addi v (broadcast S16 (base ch))] (k0_idx1_inb (addi v (broadcast S16 (base ch))) hw.down) (View.loads_vmem h_S768)
  let _ ← Prog.lift (.load bV (Rect.unit (s := S96x512) (offO p ch k) S1x16.size (offO_inb p ch k)).toLoadRect (View.loadsAt_vmem h_S1x16))
  Prog.lift (.store bV (Rect.unit (s := S96x512) (offO p ch k) S1x16.size (offO_inb p ch k)) (shapeCast S1x16 g shapeCasts_S16_S1x16) Finset.univ (View.stores_vmem_bits_univ h_S1x16 rfl) (.inl rfl))

/-- Trip `k` of a loop of parity `p`: load 16 indices, clip them, do the three planes. -/
def trip (i : grid0.Coords) (p : Fin 2) (k : Fin k0_t1_loop.trips) : TProg F i PUnit := do
  let v ← Prog.lift (.load iV (Rect.unit (s := S32x512) (offI p k) S1x16.size (offI_inb p k)).toLoadRect (View.loadsAt_vmem h_S1x16))
  lane i p 0 k (clip16 (shapeCast S16 v shapeCasts_S1x16_S16))
  lane i p 1 k (clip16 (shapeCast S16 v shapeCasts_S1x16_S16))
  lane i p 2 k (clip16 (shapeCast S16 v shapeCasts_S1x16_S16))

/-- The loop filling the three planes of a chunk of parity `p`. -/
def fill (i : grid0.Coords) (p : Fin 2) : TProg F i PUnit :=
  Scf.Loop.for k0_t1_loop k0_t1_ok ⟨⟩ fun k _ => trip i p k

/-- The start of the next chunk's read, if there is one. -/
def nextIn (i : grid0.Coords) (j : Fin 16) : TProg F i PUnit :=
  if h : j.val + 1 < 16 then inStart i ⟨j.val + 1, h⟩ else pure ⟨⟩
/-- The three waits for a chunk's writes. -/
def outWaits (i : grid0.Coords) (j : Fin 16) : TProg F i PUnit := do
  outWait i j 0; outWait i j 1; outWait i j 2
/-- The waits for the writes of the chunk before the previous one, if there is one. -/
def prevOut (i : grid0.Coords) (j : Fin 16) : TProg F i PUnit :=
  if 2 ≤ j.val then outWaits i ⟨j.val - 2, lt_of_le_of_lt (Nat.sub_le _ _) j.isLt⟩ else pure ⟨⟩
/-- The starts of a chunk's three writes. -/
def outStarts (i : grid0.Coords) (j : Fin 16) : TProg F i PUnit := do
  outStart i j 0; outStart i j 1; outStart i j 2

/-- Chunk `j`. -/
def chunk (i : grid0.Coords) (j : Fin 16) : TProg F i PUnit := do
  nextIn i j; inWait i j; prevOut i j; fill i (par j); outStarts i j

/-- The table's copy into the tile's memory, and its wait. -/
def tableCopy (i : grid0.Coords) : TProg F i PUnit := do
  Prog.lift (.enqueueDma cV (.here tV) (.dma cc0_scoped0.sem) (Memref.isWhole_whole _).wordExact (Memref.isWhole_whole _).wordExact ⟨Or.inl rfl, trivial⟩)
  Prog.lift (.waitDma2 cc0_scoped0.sem cV tV (Memref.isWhole_whole _).wordExact (Memref.isWhole_whole _).wordExact)

/-- The body, in pieces. -/
def body (i : grid0.Coords) : TProg F i PUnit := do
  tableCopy i; inStart i 0
  chunk i 0; chunk i 1; chunk i 2; chunk i 3; chunk i 4; chunk i 5; chunk i 6; chunk i 7
  chunk i 8; chunk i 9; chunk i 10; chunk i 11; chunk i 12; chunk i 13; chunk i 14; chunk i 15
  outWaits i 14; outWaits i 15

/-- The body as printed. -/
abbrev printed (i : grid0.Coords) : TProg F i PUnit :=
  cc0_run (F := F) i xV (Memref.isWhole_whole _) cV (Memref.isWhole_whole _) oV (Memref.isWhole_whole _) tV (Memref.isWhole_whole _)
    iV (Memref.isWhole_whole _) bV (Memref.isWhole_whole _) cc0_scratch3 cc0_scratch4 cc0_scratch5 cc0_scratch6 cc0_scoped0

theorem nextIn_pos (i : grid0.Coords) (j : Fin 16) (h : j.val + 1 < 16) : nextIn (F := F) i j = inStart i ⟨j.val + 1, h⟩ := dif_pos h
theorem nextIn_neg (i : grid0.Coords) (j : Fin 16) (h : ¬ j.val + 1 < 16) : nextIn (F := F) i j = pure ⟨⟩ := dif_neg h
theorem prevOut_pos (i : grid0.Coords) (j : Fin 16) (h : 2 ≤ j.val) :
    prevOut (F := F) i j = outWaits i ⟨j.val - 2, lt_of_le_of_lt (Nat.sub_le _ _) j.isLt⟩ := if_pos h
theorem prevOut_neg (i : grid0.Coords) (j : Fin 16) (h : ¬ 2 ≤ j.val) : prevOut (F := F) i j = pure ⟨⟩ := if_neg h

set_option maxHeartbeats 4000000 in
set_option maxRecDepth 100000 in
/-- The printed body is the sequence of the pieces. -/
theorem printed_eq (i : grid0.Coords) : printed (F := F) i = body i := by
  unfold printed
  simp only [cc0_run, k0_part1, k0_part2, k0_part3, k0_part4, k0_part5, k0_part6, k0_part7, k0_part8, k0_part9, k0_part10, k0_part11,
    k0_part12, k0_part13, k0_part14, k0_part15, k0_part16, k0_part17, k0_part18, k0_part19, k0_part20, k0_part21, k0_part22, k0_part23,
    k0_part24, k0_part25, k0_part26, k0_part27, k0_part28, k0_part29, k0_part30, k0_part31, k0_part32, k0_part33, k0_part34,
    bind_assoc, pure_bind, bind_pure,
    body, tableCopy, chunk]
  rw [nextIn_neg i 15 (by decide), prevOut_neg i 0 (by decide), prevOut_neg i 1 (by decide)]
  rw [nextIn_pos i 0 (by decide), nextIn_pos i 1 (by decide), nextIn_pos i 2 (by decide), nextIn_pos i 3 (by decide), nextIn_pos i 4 (by decide),
    nextIn_pos i 5 (by decide), nextIn_pos i 6 (by decide), nextIn_pos i 7 (by decide), nextIn_pos i 8 (by decide), nextIn_pos i 9 (by decide),
    nextIn_pos i 10 (by decide), nextIn_pos i 11 (by decide), nextIn_pos i 12 (by decide), nextIn_pos i 13 (by decide), nextIn_pos i 14 (by decide)]
  rw [prevOut_pos i 2 (by decide), prevOut_pos i 3 (by decide), prevOut_pos i 4 (by decide),
    prevOut_pos i 5 (by decide), prevOut_pos i 6 (by decide), prevOut_pos i 7 (by decide), prevOut_pos i 8 (by decide), prevOut_pos i 9 (by decide),
    prevOut_pos i 10 (by decide), prevOut_pos i 11 (by decide), prevOut_pos i 12 (by decide), prevOut_pos i 13 (by decide), prevOut_pos i 14 (by decide),
    prevOut_pos i 15 (by decide)]
  simp only [outStarts, outWaits, bind_assoc, pure_bind]
  rfl

end Cert.Proof.Body

end
-- ==== Proof.Places.lean ====
/-
  Where the pieces lie: the closed forms of the offsets, the elements each 16-row block of `x`, of the result and of the
  scratch arrays names, and the value each element of the result is to have.
-/
module

public import proofs.«01_k».proof.Proof.Body
public import Idealize.ShloMosaic.Lib.ValueLayout

@[expose] public section

noncomputable section

namespace Cert.Proof.Body

open Cert.KernelIdeal Cert.KernelIdeal.Gen
open Idealize.ShloMosaic Idealize.SL.Sem Idealize.ShloMosaic.ValueIdx

variable {F : FTy → Type} [FloatOps F]

/-! ## The offsets -/

/-- The grid coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (i : grid0.Coords) : i = coordsV (i 0) (i 1) := by
  funext a
  match a with
  | 0 => rfl
  | 1 => rfl

theorem inOff_all : ∀ (c : Fin (grid0.bound 0)) (s : Fin (grid0.bound 1)) (j : Fin 16),
    inOff (coordsV c s) j = ![s.val, 0, 256 * c.val + 16 * j.val, 0] := by decide +kernel
theorem outOff_all : ∀ (ch : Fin 3) (c : Fin (grid0.bound 0)) (s : Fin (grid0.bound 1)) (j : Fin 16),
    outOff (coordsV c s) j ch = ![s.val, ch.val, 256 * c.val + 16 * j.val, 0] := by decide +kernel
theorem offI_eq : ∀ (p : Fin 2) (k : Fin k0_t1_loop.trips), offI p k = ![16 * p.val + k.val / 32, 16 * (k.val % 32)] := by decide +kernel
theorem offO_eq : ∀ (p : Fin 2) (ch : Fin 3) (k : Fin k0_t1_loop.trips),
    offO p ch k = ![16 * (3 * p.val + ch.val) + k.val / 32, 16 * (k.val % 32)] := by decide +kernel
theorem inOff_eq (i : grid0.Coords) (j : Fin 16) : inOff i j = ![(i 1).val, 0, 256 * (i 0).val + 16 * j.val, 0] := by
  rw [coordsV_eta i]; exact inOff_all _ _ j
theorem outOff_eq (i : grid0.Coords) (j : Fin 16) (ch : Fin 3) : outOff i j ch = ![(i 1).val, ch.val, 256 * (i 0).val + 16 * j.val, 0] := by
  rw [coordsV_eta i]; exact outOff_all ch _ _ j

/-! ## The elements -/

theorem squeeze_idx (y : S16x512.Idx) :
    Shape.reshapeEquiv squeezes_S1x1x16x512_S16x512.numel_eq y = ix4 (⟨0, Nat.one_pos⟩ : Fin 1) (⟨0, Nat.one_pos⟩ : Fin 1) (y 0) (y 1) :=
  (congrArg _ (show y = ix2 (y 0) (y 1) by funext a; match a with | 0 => rfl | 1 => rfl)).trans
    (reshapeEquiv_ix2_11ab squeezes_S1x1x16x512_S16x512.numel_eq (y 0) (y 1))

/-- The element of `x` at place `y` of chunk `j`. -/
theorem inRef_emb (i : grid0.Coords) (j : Fin 16) (y : S16x512.Idx) (a : Fin 4) :
    ((inRef i j).view.emb y a).val = (![(i 1).val, 0, 256 * (i 0).val + 16 * j.val + (y 0).val, (y 1).val] : Fin 4 → Nat) a := by
  show (((Rect.unit (s := S16x1x512x512) (inOff i j) S1x1x16x512.size (inOff_inb i j)).emb
    (Shape.reshapeEquiv squeezes_S1x1x16x512_S16x512.numel_eq y)) a).val = _
  refine (show _ = inOff i j a + 1 * ((ix4 (⟨0, Nat.one_pos⟩ : Fin 1) (⟨0, Nat.one_pos⟩ : Fin 1) (y 0) (y 1)) a).val from
    congrArg (fun z : S1x1x16x512.Idx => inOff i j a + 1 * (z a).val) (squeeze_idx y)).trans ?_
  rw [inOff_eq]
  match a with
  | 0 => show (i 1).val + 1 * 0 = (i 1).val; omega
  | 1 => rfl
  | 2 => show 256 * (i 0).val + 16 * j.val + 1 * (y 0).val = 256 * (i 0).val + 16 * j.val + (y 0).val; omega
  | 3 => show 0 + 1 * (y 1).val = (y 1).val; omega

/-- The element of the result at place `y` of plane `ch` of chunk `j`. -/
theorem outRef_emb (i : grid0.Coords) (j : Fin 16) (ch : Fin 3) (y : S16x512.Idx) (a : Fin 4) :
    ((outRef i j ch).view.emb y a).val = (![(i 1).val, ch.val, 256 * (i 0).val + 16 * j.val + (y 0).val, (y 1).val] : Fin 4 → Nat) a := by
  show (((Rect.unit (s := S16x3x512x512) (outOff i j ch) S1x1x16x512.size (outOff_inb i j ch)).emb
    (Shape.reshapeEquiv squeezes_S1x1x16x512_S16x512.numel_eq y)) a).val = _
  refine (show _ = outOff i j ch a + 1 * ((ix4 (⟨0, Nat.one_pos⟩ : Fin 1) (⟨0, Nat.one_pos⟩ : Fin 1) (y 0) (y 1)) a).val from
    congrArg (fun z : S1x1x16x512.Idx => outOff i j ch a + 1 * (z a).val) (squeeze_idx y)).trans ?_
  rw [outOff_eq]
  match a with
  | 0 => show (i 1).val + 1 * 0 = (i 1).val; omega
  | 1 => show ch.val + 1 * 0 = ch.val; omega
  | 2 => show 256 * (i 0).val + 16 * j.val + 1 * (y 0).val = 256 * (i 0).val + 16 * j.val + (y 0).val; omega
  | 3 => show 0 + 1 * (y 1).val = (y 1).val; omega

/-- The elements of the result that plane `ch` of chunk `j` takes. -/
theorem mem_outSet (i : grid0.Coords) (j : Fin 16) (ch : Fin 3) (x : S16x3x512x512.Idx) :
    x ∈ (outRef i j ch).view.set ↔ (x 0).val = (i 1).val ∧ (x 1).val = ch.val ∧ 256 * (i 0).val + 16 * j.val ≤ (x 2).val
      ∧ (x 2).val < 256 * (i 0).val + 16 * j.val + 16 := by
  have e : (outRef i j ch).view.set = (Rect.unit (s := S16x3x512x512) (outOff i j ch) S1x1x16x512.size (outOff_inb i j ch)).set :=
    (View.set_reshape _ _).trans (View.set_slice_whole _ _)
  rw [e, Rect.mem_set_unit, outOff_eq]
  constructor
  · intro h
    have h0 : (i 1).val ≤ (x 0).val ∧ (x 0).val < (i 1).val + 1 := h 0
    have h1 : ch.val ≤ (x 1).val ∧ (x 1).val < ch.val + 1 := h 1
    have h2 : 256 * (i 0).val + 16 * j.val ≤ (x 2).val ∧ (x 2).val < 256 * (i 0).val + 16 * j.val + 16 := h 2
    omega
  · intro h a
    match a with
    | 0 => show (i 1).val ≤ (x 0).val ∧ (x 0).val < (i 1).val + 1; omega
    | 1 => show ch.val ≤ (x 1).val ∧ (x 1).val < ch.val + 1; omega
    | 2 => show 256 * (i 0).val + 16 * j.val ≤ (x 2).val ∧ (x 2).val < 256 * (i 0).val + 16 * j.val + 16; omega
    | 3 => exact ⟨Nat.zero_le _, (x 3).isLt.trans_eq (Nat.zero_add 512).symm⟩

/-! ## The result's value -/

/-- A word clipped to 0..255. -/
def clipW (v : BitVec 32) : BitVec 32 := IntOp.minsi 255#32 (IntOp.maxsi 0#32 v)

theorem clipW_toNat (v : BitVec 32) : (clipW v).toNat = if v.toInt ≤ 0 then 0 else if 255 ≤ v.toInt then 255 else v.toNat := by
  unfold clipW IntOp.minsi IntOp.maxsi
  have hv := v.isLt
  simp only [BitVec.slt_eq_decide, decide_eq_true_eq, BitVec.toInt_eq_toNat_cond, BitVec.toNat_ofNat, Nat.reducePow, Nat.reduceMod]
  split_ifs <;> simp_all [BitVec.toInt_eq_toNat_cond] <;> omega

theorem clipW_lt (v : BitVec 32) : (clipW v).toNat < 256 := by
  have hv := v.isLt
  have h := BitVec.toInt_eq_toNat_cond v
  rw [clipW_toNat]; split_ifs at * <;> omega

/-- The table's word for plane `ch` at a clipped index. -/
def cell (t : S768.Idx → F .f32) (ch : Fin 3) (v : BitVec 32) : F .f32 :=
  t (ix1 (⟨256 * ch.val + (clipW v).toNat, by have := clipW_lt v; have := ch.isLt; omega⟩ : Fin 768))

/-- The result: plane `o 1` of the table at `x`'s word for place `o`, clipped. -/
def target (x : S16x1x512x512.Idx → BitVec 32) (t : S768.Idx → F .f32) : S16x3x512x512.Idx → F .f32 :=
  fun o => cell t (o 1) (x (ix4 (o 0) (⟨0, Nat.one_pos⟩ : Fin 1) (o 2) (o 3)))

theorem target_emb (x : S16x1x512x512.Idx → BitVec 32) (t : S768.Idx → F .f32) (i : grid0.Coords) (j : Fin 16) (ch : Fin 3) (y : S16x512.Idx) :
    target x t ((outRef i j ch).view.emb y) = cell t ch ((inRef i j).view.read (Elt F) x y) := by
  have h1 : ((outRef i j ch).view.emb y : S16x3x512x512.Idx) 1 = ch := Fin.ext (outRef_emb i j ch y 1)
  have h2 : ix4 (((outRef i j ch).view.emb y : S16x3x512x512.Idx) 0) (⟨0, Nat.one_pos⟩ : Fin 1) (((outRef i j ch).view.emb y : S16x3x512x512.Idx) 2)
      (((outRef i j ch).view.emb y : S16x3x512x512.Idx) 3) = ((inRef i j).view.emb y : S16x1x512x512.Idx) := by
    funext a
    apply Fin.ext
    match a with
    | 0 => exact (outRef_emb i j ch y 0).trans (inRef_emb i j y 0).symm
    | 1 => exact (inRef_emb i j y 1).symm
    | 2 => exact (outRef_emb i j ch y 2).trans (inRef_emb i j y 2).symm
    | 3 => exact (outRef_emb i j ch y 3).trans (inRef_emb i j y 3).symm
  exact congrArg₂ (cell t) h1 (congrArg x h2)

/-! ## One trip of the loop -/

theorem iBuf_emb (p : Fin 2) (y : S16x512.Idx) (a : Fin 2) :
    ((iBuf p).view.emb y a).val = (![16 * p.val + (y 0).val, (y 1).val] : Fin 2 → Nat) a := by
  match a with
  | 0 => show 16 * p.val + 1 * (y 0).val = 16 * p.val + (y 0).val; omega
  | 1 => show 0 + 1 * (y 1).val = (y 1).val; omega
theorem oBuf_emb (p : Fin 2) (ch : Fin 3) (y : S16x512.Idx) (a : Fin 2) :
    ((oBuf p ch).view.emb y a).val = (![16 * (3 * p.val + ch.val) + (y 0).val, (y 1).val] : Fin 2 → Nat) a := by
  match a with
  | 0 => show 16 * (3 * p.val + ch.val) + 1 * (y 0).val = 16 * (3 * p.val + ch.val) + (y 0).val; omega
  | 1 => show 0 + 1 * (y 1).val = (y 1).val; omega

abbrev rI (p : Fin 2) (k : Fin k0_t1_loop.trips) : Rect S32x512 := Rect.unit (s := S32x512) (offI p k) S1x16.size (offI_inb p k)
abbrev rO (p : Fin 2) (ch : Fin 3) (k : Fin k0_t1_loop.trips) : Rect S96x512 := Rect.unit (s := S96x512) (offO p ch k) S1x16.size (offO_inb p ch k)

/-- Trip `k` reads within the chunk's half of the index scratch, -/
theorem rI_sub (p : Fin 2) (k : Fin k0_t1_loop.trips) : iV.view.setOn (rI p k).set ⊆ (iBuf p).view.set := by
  have e : iV.view.setOn (rI p k).set = (rI p k).set := Finset.map_refl
  have e' : (iBuf p).view.set = (Rect.unit (s := S32x512) ![16 * p.val, 0] S16x512.size (iBuf_inb p)).set := View.set_slice_whole _ _
  rw [e, e']
  intro x hx
  rw [Rect.mem_set_unit, offI_eq] at hx
  rw [Rect.mem_set_unit]
  have hk : k.val < 512 := k.isLt
  have h0 : 16 * p.val + k.val / 32 ≤ (x 0).val ∧ (x 0).val < 16 * p.val + k.val / 32 + 1 := hx 0
  intro a
  match a with
  | 0 => show 16 * p.val ≤ (x 0).val ∧ (x 0).val < 16 * p.val + 16; omega
  | 1 => exact ⟨Nat.zero_le _, (x 1).isLt.trans_eq (Nat.zero_add 512).symm⟩
/-- and writes within the plane's part of the result scratch. -/
theorem rO_sub (p : Fin 2) (ch : Fin 3) (k : Fin k0_t1_loop.trips) : (bV.access (rO p ch k)).set ⊆ (oBuf p ch).view.set := by
  have e : (bV.access (rO p ch k)).set = (rO p ch k).set := View.set_slice_whole _ _
  have e' : (oBuf p ch).view.set = (Rect.unit (s := S96x512) ![16 * (3 * p.val + ch.val), 0] S16x512.size (oBuf_inb p ch)).set := View.set_slice_whole _ _
  rw [e, e']
  intro x hx
  rw [Rect.mem_set_unit, offO_eq] at hx
  rw [Rect.mem_set_unit]
  have hk : k.val < 512 := k.isLt
  have h0 : 16 * (3 * p.val + ch.val) + k.val / 32 ≤ (x 0).val ∧ (x 0).val < 16 * (3 * p.val + ch.val) + k.val / 32 + 1 := hx 0
  intro a
  match a with
  | 0 => show 16 * (3 * p.val + ch.val) ≤ (x 0).val ∧ (x 0).val < 16 * (3 * p.val + ch.val) + 16; omega
  | 1 => exact ⟨Nat.zero_le _, (x 1).isLt.trans_eq (Nat.zero_add 512).symm⟩

/-- Lane `l` of sixteen as an index of a 1 by 16 block. -/
abbrev lane1 (l : S16.Idx) : S1x16.Idx := ix2 (⟨0, Nat.one_pos⟩ : Fin 1) (l 0)

theorem cast_lane (l : S16.Idx) : Shape.reshapeEquiv shapeCasts_S1x16_S16 l = lane1 l :=
  Shape.reshapeEquiv_eq_of_rowMajor shapeCasts_S1x16_S16 (by
    rw [Shape.rowMajor_val_two, Shape.rowMajor_val_one]
    show 0 * 16 + (l 0).val = (l 0).val
    omega)
theorem cast_lane' (l : S16.Idx) : Shape.reshapeEquiv shapeCasts_S16_S1x16 (lane1 l) = l :=
  Shape.reshapeEquiv_eq_of_rowMajor shapeCasts_S16_S1x16 (by
    rw [Shape.rowMajor_val_two, Shape.rowMajor_val_one]
    show (l 0).val = 0 * 16 + (l 0).val
    omega)

/-- The place of a chunk that lane `l` of trip `k` works on. -/
def place (k : Fin k0_t1_loop.trips) (l : S16.Idx) : S16x512.Idx :=
  ix2 (⟨k.val / 32, by have : k.val < 512 := k.isLt; omega⟩ : Fin 16)
    (⟨16 * (k.val % 32) + (l 0).val, by have : (l 0).val < 16 := (l 0).isLt; omega⟩ : Fin 512)

/-- The sixteen words trip `k` loads are the chunk's, at its places. -/
theorem load_apply (p : Fin 2) (k : Fin k0_t1_loop.trips) (f : S32x512.Idx → BitVec 32) (l : S16.Idx) :
    shapeCast S16 (iV.view.readAt (Elt F) (rI p k).toLoadRect f) shapeCasts_S1x16_S16 l = (iBuf p).view.read (Elt F) f (place k l) := by
  show (iV.view.readAt (Elt F) (rI p k).toLoadRect f) (Shape.reshapeEquiv shapeCasts_S1x16_S16 l) = _
  rw [cast_lane, View.readAt_rect]
  show f ((rI p k).emb (lane1 l)) = f ((iBuf p).view.emb (place k l))
  congr 1
  funext a
  apply Fin.ext
  rw [iBuf_emb, Rect.emb_apply]
  show offI p k a + 1 * _ = _
  rw [offI_eq]
  match a with
  | 0 => show 16 * p.val + k.val / 32 + 1 * 0 = 16 * p.val + k.val / 32; omega
  | 1 => show 16 * (k.val % 32) + 1 * (l 0).val = 16 * (k.val % 32) + (l 0).val; omega

theorem base_toNat (ch : Fin 3) : (base ch).toNat = 256 * ch.val := by
  match ch with
  | 0 => rfl
  | 1 => rfl
  | 2 => rfl

theorem lane_toNat (ch : Fin 3) (v : IVec S16 32) (l : S16.Idx) :
    (addi (clip16 v) (broadcast S16 (base ch)) l).toNat = 256 * ch.val + (clipW (v l)).toNat := by
  show (clipW (v l) + base ch).toNat = _
  have := clipW_lt (v l)
  have := ch.isLt
  rw [BitVec.toNat_add, base_toNat]; omega

/-- The gathered words are inside the table. -/
theorem chk (ch : Fin 3) (v : IVec S16 32) : k0_chk1 (addi (clip16 v) (broadcast S16 (base ch))) := by
  intro a l
  match a with
  | 0 =>
    show (addi (clip16 v) (broadcast S16 (base ch)) l).toNat < 768
    rw [lane_toNat]
    have := clipW_lt (v l)
    have := ch.isLt
    omega

/-- The gather reads the table's word for each lane's clipped index. -/
theorem gather_apply (ch : Fin 3) (v : IVec S16 32) (t : S768.Idx → F .f32) (h) (l : S16.Idx) :
    loadIdx (F := F) (e := .f32) (s := S768) t ![addi (clip16 v) (broadcast S16 (base ch))] h l = cell t ch (v l) := by
  show t _ = t _
  congr 1
  funext a
  apply Fin.ext
  match a with
  | 0 => exact lane_toNat ch v l

/-- What trip `k` leaves in the result scratch. -/
abbrev stored (p : Fin 2) (ch : Fin 3) (k : Fin k0_t1_loop.trips) (g : S96x512.Idx → F .f32) (w : S16.Idx → F .f32) : S96x512.Idx → F .f32 :=
  (bV.access (rO p ch k)).write (Elt F) g (shapeCast S1x16 w shapeCasts_S16_S1x16) Finset.univ

theorem oBuf_place (p : Fin 2) (ch : Fin 3) (k : Fin k0_t1_loop.trips) (l : S16.Idx) :
    (oBuf p ch).view.emb (place k l) = (bV.access (rO p ch k)).emb (lane1 l) := by
  funext a
  apply Fin.ext
  rw [oBuf_emb]
  show _ = ((rO p ch k).emb (lane1 l) a).val
  rw [Rect.emb_apply]
  show _ = offO p ch k a + 1 * _
  rw [offO_eq]
  match a with
  | 0 => show 16 * (3 * p.val + ch.val) + k.val / 32 = 16 * (3 * p.val + ch.val) + k.val / 32 + 1 * 0; omega
  | 1 => show 16 * (k.val % 32) + (l 0).val = 16 * (k.val % 32) + 1 * (l 0).val; omega

theorem stored_place (p : Fin 2) (ch : Fin 3) (k : Fin k0_t1_loop.trips) (g : S96x512.Idx → F .f32) (w : S16.Idx → F .f32) (l : S16.Idx) :
    (oBuf p ch).view.read (Elt F) (stored p ch k g w) (place k l) = w l := by
  show stored p ch k g w ((oBuf p ch).view.emb (place k l)) = _
  rw [oBuf_place]
  refine (View.write_emb_of_mem (v := bV.access (rO p ch k)) (Val := Elt F) g _ (Finset.mem_univ _)).trans ?_
  show w (Shape.reshapeEquiv shapeCasts_S16_S1x16 (lane1 l)) = w l
  rw [cast_lane']

theorem stored_other (p : Fin 2) (ch : Fin 3) (k : Fin k0_t1_loop.trips) (g : S96x512.Idx → F .f32) (w : S16.Idx → F .f32) (y : S16x512.Idx)
    (hy : 512 * (y 0).val + (y 1).val < 16 * k.val) :
    (oBuf p ch).view.read (Elt F) (stored p ch k g w) y = (oBuf p ch).view.read (Elt F) g y := by
  refine View.write_of_not_mem (v := bV.access (rO p ch k)) (Val := Elt F) g _ Finset.univ (i := (oBuf p ch).view.emb y) ?_
  have e : (bV.access (rO p ch k)).setOn Finset.univ = (rO p ch k).set := View.set_slice_whole _ _
  rw [e, Rect.mem_set_unit, offO_eq]
  intro h
  have h0 : 16 * (3 * p.val + ch.val) + k.val / 32 ≤ ((oBuf p ch).view.emb y 0).val ∧ _ := h 0
  have h1 : 16 * (k.val % 32) ≤ ((oBuf p ch).view.emb y 1).val ∧ _ := h 1
  rw [oBuf_emb] at h0 h1
  have h0' : 16 * (3 * p.val + ch.val) + k.val / 32 ≤ 16 * (3 * p.val + ch.val) + (y 0).val := h0.1
  have h1' : 16 * (k.val % 32) ≤ (y 1).val := h1.1
  have h2 : (y 1).val < 512 := (y 1).isLt
  omega

/-- The first `16 * n` places of a plane hold their words. -/
def Filled (p : Fin 2) (ch : Fin 3) (f : S32x512.Idx → BitVec 32) (t : S768.Idx → F .f32) (n : Nat) (g : S96x512.Idx → F .f32) : Prop :=
  ∀ y : S16x512.Idx, 512 * (y 0).val + (y 1).val < 16 * n → (oBuf p ch).view.read (Elt F) g y = cell t ch ((iBuf p).view.read (Elt F) f y)

theorem filled_zero (p : Fin 2) (ch : Fin 3) (f : S32x512.Idx → BitVec 32) (t : S768.Idx → F .f32) (g : S96x512.Idx → F .f32) :
    Filled p ch f t 0 g := fun y hy => absurd hy (by omega)

theorem filled_step (p : Fin 2) (ch : Fin 3) (f : S32x512.Idx → BitVec 32) (t : S768.Idx → F .f32) (k : Fin k0_t1_loop.trips) (g : S96x512.Idx → F .f32)
    (hg : Filled p ch f t k.val g) (h) :
    Filled p ch f t (k.val + 1) (stored p ch k g (loadIdx (F := F) (e := .f32) (s := S768) t
      ![addi (clip16 (shapeCast S16 (iV.view.readAt (Elt F) (rI p k).toLoadRect f) shapeCasts_S1x16_S16)) (broadcast S16 (base ch))] h)) := by
  intro y hy
  by_cases hk : 512 * (y 0).val + (y 1).val < 16 * k.val
  · rw [stored_other p ch k g _ y hk]; exact hg y hk
  · have h1 : (y 1).val < 512 := (y 1).isLt
    obtain ⟨l, rfl⟩ : ∃ l : S16.Idx, y = place k l := by
      refine ⟨ix1 (⟨(y 1).val - 16 * (k.val % 32), by omega⟩ : Fin 16), ?_⟩
      funext a
      apply Fin.ext
      match a with
      | 0 => show (y 0).val = k.val / 32; omega
      | 1 => show (y 1).val = 16 * (k.val % 32) + ((y 1).val - 16 * (k.val % 32)); omega
    rw [stored_place, gather_apply, load_apply]

/-- A plane filled whole, written out, is the result on the chunk's elements. -/
theorem target_of_filled (i : grid0.Coords) (j : Fin 16) (ch : Fin 3) (x : S16x1x512x512.Idx → BitVec 32) (t : S768.Idx → F .f32)
    (f : S32x512.Idx → BitVec 32) (g : S96x512.Idx → F .f32) (o : S16x3x512x512.Idx → F .f32) (p : Fin 2)
    (hf : ∀ y, (iBuf p).view.read (Elt F) f y = (inRef i j).view.read (Elt F) x y) (hg : Filled p ch f t k0_t1_loop.trips g) :
    ∀ z ∈ (outRef i j ch).view.set,
      (outRef i j ch).view.write (Elt F) o ((oBuf p ch).view.read (Elt F) g) Finset.univ z = target x t z := by
  intro z hz
  obtain ⟨y, -, rfl⟩ := Finset.mem_map.mp hz
  refine (View.write_emb_of_mem (v := (outRef i j ch).view) (Val := Elt F) o _ (Finset.mem_univ y)).trans ?_
  rw [target_emb, ← hf y]
  refine hg y ?_
  have h0 : (y 0).val < 16 := (y 0).isLt
  have h1 : (y 1).val < 512 := (y 1).isLt
  show 512 * (y 0).val + (y 1).val < 16 * 512
  omega

end Cert.Proof.Body

end
-- ==== Proof.Fill.lean ====
/-
  The launch vocabulary of the tiles' program, and the loop that fills a chunk's three planes: after it, each plane's
  part of the result scratch holds the table's words at the chunk's clipped indices.
-/
module

public import proofs.«01_k».proof.Proof.Places

@[expose] public section

noncomputable section

namespace Cert.Proof.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cT (L : grid0.Coords) : Fin τ.nSC := (L 0).castLE hcore0
abbrev jT (L : grid0.Coords) : Fin τ.nSub := (L 1).castLE hsub0

section Tile

variable [FloatOps F] (d : Dev nD) (L : grid0.Coords)

/-- The tile at grid coordinates `L` of device `d`. -/
abbrev thr : Thread nD τ := V d (cT L) (jT L)

/-- Weakest preconditions of the tile's programs. -/
abbrev WP {α : Type} (p : TProg F L α) (Q : α → sProp 𝕄) : sProp 𝕄 :=
  wp frame (wpE (defs₀ (F := F)) 𝒱₀ (V d (cT L) (jT L)) none) Set.univ p Q

variable {d L}

/-- A program's triple used at the head of a sequence. -/
theorem use {α β : Type} {p : TProg F L α} {A : sProp 𝕄} {B : α → sProp 𝕄} (h : A ⊢ WP d L p B) {k : α → TProg F L β} {Q : β → sProp 𝕄} :
    A ⊢ iprop((∀ a, B a -∗ WP d L (k a) Q) -∗ WP d L (p >>= k) Q) := by
  unfold WP
  rw [wp_bind]
  exact h.trans (wp_wand frame _ _)

variable (d L)

/-! ## The buffers -/

/-- Half `p` of the index scratch, at `f`. -/
abbrev iPts (p : Fin 2) (f : Buf (Elt F) ((iBuf p).view.loc (thr d L))) : sProp 𝕄 :=
  (iBuf p).view.loc (thr d L) ↦[(iBuf p).view.set]{fullShare} f
/-- The part of the result scratch for plane `ch` of parity `p`, at `g`. -/
abbrev oPts (p : Fin 2) (ch : Fin 3) (g : Buf (Elt F) ((oBuf p ch).view.loc (thr d L))) : sProp 𝕄 :=
  (oBuf p ch).view.loc (thr d L) ↦[(oBuf p ch).view.set]{fullShare} g
/-- The tile's copy of the table, at `t`. -/
abbrev tPts (t : Buf (Elt F) (tV.view.loc (thr d L))) : sProp 𝕄 := tV.view.loc (thr d L) ↦{fullShare} t

/-- A plane's part, its first `16 * n` places filled. -/
abbrev fPts (p : Fin 2) (f : Buf (Elt F) ((iBuf p).view.loc (thr d L))) (t : Buf (Elt F) (tV.view.loc (thr d L))) (n : Nat) (ch : Fin 3) : sProp 𝕄 :=
  iprop(∃ g : Buf (Elt F) ((oBuf p ch).view.loc (thr d L)), ⌜Filled (F := F) p ch f t n g⌝ ∗ oPts d L p ch g)

/-- One plane of one trip. -/
theorem lane_spec (p : Fin 2) (ch : Fin 3) (k : Fin k0_t1_loop.trips) (f : Buf (Elt F) ((iBuf p).view.loc (thr d L)))
    (t : Buf (Elt F) (tV.view.loc (thr d L))) :
    iprop(tPts d L t ∗ fPts d L p f t k.val ch)
      ⊢ WP d L (lane L p ch k (clip16 (shapeCast S16 (iV.view.readAt (Elt F) (rI p k).toLoadRect f) shapeCasts_S1x16_S16)))
          fun _ => iprop(tPts d L t ∗ fPts d L p f t (k.val + 1) ch) := by
  unfold lane WP
  iintro ⟨Ht, ⟨%g, %hg, Hg⟩⟩
  simp only [Prog.lift, Prog.bind_op, Prog.bind_ret]
  rw [wp_assume_of _ _ _ _ (chk ch _)]
  iapply (SparseCore.wp_vectorLoadIdx 𝒱₀ (V d (cT L) (jT L)) none Set.univ (base := tV) (S := Finset.univ) (q := fullShare) (Finset.subset_univ _)) $$ Ht
  iintro Ht
  rw [show (tV.access (.whole S768)).read (Elt F) t = t from Memref.read_access_whole ..]
  iapply (wp_load_rect 𝒱₀ (V d (cT L) (jT L)) none Set.univ (m := bV) (r := rO p ch k) (S := (oBuf p ch).view.set) (rO_sub p ch k)) $$ Hg
  iintro Hg
  iapply (wp_store 𝒱₀ (V d (cT L) (jT L)) none Set.univ (m := bV) (r := rO p ch k) (Mk := Finset.univ) (S := (oBuf p ch).view.set) (rO_sub p ch k)) $$ Hg
  iintro Hg
  rw [wp_ret]
  imodintro
  isplitl [Ht]; · iexact Ht
  iexists (stored p ch k g (loadIdx (F := F) (e := .f32) (s := S768) t _ (k0_idx1_inb _ (chk ch
    (shapeCast S16 (iV.view.readAt (Elt F) (rI p k).toLoadRect f) shapeCasts_S1x16_S16)))))
  isplitr
  · ipureintro; exact filled_step p ch f t k g hg _
  · iexact Hg

/-- One trip. -/
theorem trip_spec (p : Fin 2) (k : Fin k0_t1_loop.trips) (f : Buf (Elt F) ((iBuf p).view.loc (thr d L)))
    (t : Buf (Elt F) (tV.view.loc (thr d L))) :
    iprop(tPts d L t ∗ iPts d L p f ∗ fPts d L p f t k.val 0 ∗ fPts d L p f t k.val 1 ∗ fPts d L p f t k.val 2)
      ⊢ WP d L (trip L p k)
          fun _ => iprop(tPts d L t ∗ iPts d L p f ∗ fPts d L p f t (k.val + 1) 0 ∗ fPts d L p f t (k.val + 1) 1 ∗ fPts d L p f t (k.val + 1) 2) := by
  unfold trip
  iintro ⟨Ht, Hi, H0, H1, H2⟩
  unfold WP
  simp only [Prog.lift, Prog.bind_op, Prog.bind_ret]
  iapply (wp_load 𝒱₀ (V d (cT L) (jT L)) none Set.univ (m := iV) (r := (rI p k).toLoadRect) (S := (iBuf p).view.set) (rI_sub p k)) $$ Hi
  iintro Hi
  iapply (use (lane_spec d L p 0 k f t)) $$ [Ht H0]
  · isplitl [Ht] <;> iassumption
  iintro %_ ⟨Ht, H0⟩
  iapply (use (lane_spec d L p 1 k f t)) $$ [Ht H1]
  · isplitl [Ht] <;> iassumption
  iintro %_ ⟨Ht, H1⟩
  iapply ((lane_spec d L p 2 k f t).trans (wp_wand frame _ _)) $$ [Ht H2]
  · isplitl [Ht] <;> iassumption
  iintro %_ ⟨Ht, H2⟩
  isplitl [Ht]; · iexact Ht
  isplitl [Hi]; · iexact Hi
  isplitl [H0]; · iexact H0
  isplitl [H1] <;> iassumption

/-- The loop: every place of the three planes filled. -/
theorem fill_spec (p : Fin 2) (f : Buf (Elt F) ((iBuf p).view.loc (thr d L))) (t : Buf (Elt F) (tV.view.loc (thr d L))) :
    iprop(tPts d L t ∗ iPts d L p f ∗ (∃ g, oPts d L p 0 g) ∗ (∃ g, oPts d L p 1 g) ∗ (∃ g, oPts d L p 2 g))
      ⊢ WP d L (fill L p)
          fun _ => iprop(tPts d L t ∗ iPts d L p f ∗ fPts d L p f t k0_t1_loop.trips 0 ∗ fPts d L p f t k0_t1_loop.trips 1
            ∗ fPts d L p f t k0_t1_loop.trips 2) := by
  unfold fill WP
  iintro ⟨Ht, Hi, ⟨%g0, H0⟩, ⟨%g1, H1⟩, ⟨%g2, H2⟩⟩
  iapply (Scf.wp_for frame (wpE (defs₀ (F := F)) 𝒱₀ (V d (cT L) (jT L)) none) Set.univ k0_t1_loop.lb k0_t1_loop.ub k0_t1_loop.st k0_t1_ok ⟨⟩
    (fun k _ => trip L p k)
    (fun n _ => iprop(tPts d L t ∗ iPts d L p f ∗ fPts d L p f t n 0 ∗ fPts d L p f t n 1 ∗ fPts d L p f t n 2))
    (fun k _ => trip_spec d L p k f t))
  isplitl
  · isplitl [Ht]; · iexact Ht
    isplitl [Hi]; · iexact Hi
    isplitl [H0]
    · iexists g0; isplitr; · ipureintro; exact filled_zero p 0 f t g0
      iexact H0
    isplitl [H1]
    · iexists g1; isplitr; · ipureintro; exact filled_zero p 1 f t g1
      iexact H1
    · iexists g2; isplitr; · ipureintro; exact filled_zero p 2 f t g2
      iexact H2
  · iintro %_ H; iexact H

end Tile

end Cert.Proof.Body

end
-- ==== Proof.Move.lean ====
/-
  The transfers of one chunk: starting and waiting for the read of its rows of `x`, starting and waiting for the writes
  of its three planes.
-/
module

public import proofs.«01_k».proof.Proof.Fill

@[expose] public section

noncomputable section

namespace Cert.Proof.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid0.Coords)
variable (x : Buf (Elt F) (xV.view.loc (thr d L))) (t : Buf (Elt F) (tV.view.loc (thr d L))) (o : Buf (Elt F) (oV.view.loc (thr d L)))
variable (q : Fin 2 → PosShare TreeShare) (O : CellTallies nD τ sig (HIx 1)) (W : Waits sig (HIx 1))

/-- What the tile owes, with the waits it has made recorded, and its leave to wait. -/
def Owe : sProp 𝕄 :=
  iprop(Transfers.MayWaits (thr d L) (default : HIx 1) O ∗ ∃ W', ⌜∀ p ∈ W', p ∈ W ∨ p.2 = none⌝ ∗ owes (thr d L) O W')

/-- A share of all of `x`. -/
abbrev xPts (q : PosShare TreeShare) : sProp 𝕄 := xV.view.loc (thr d L) ↦{q} x
/-- A share of chunk `j` of the tile's rows of `x`. -/
abbrev xcPts (q : PosShare TreeShare) (j : Fin 16) : sProp 𝕄 := (inRef L j).view.loc (thr d L) ↦[(inRef L j).view.set]{q} x
/-- Plane `ch` of chunk `j` of the tile's rows of the result, at `f`. -/
abbrev pPts (j : Fin 16) (f : Buf (Elt F) (oV.view.loc (thr d L))) (ch : Fin 3) : sProp 𝕄 :=
  (outRef L j ch).view.loc (thr d L) ↦[(outRef L j ch).view.set]{fullShare} f

/-- The units a chunk's read credits, -/
abbrev nI : ℕ := (iBuf 0).view.dmaCredit
/-- and a plane's write. -/
abbrev nO (L : grid0.Coords) : ℕ := (outRef L 0 0).view.dmaCredit

/-! ## The reads -/

/-- The semaphore of the reads of parity `p` at zero. -/
abbrev iSem0 (p : Fin 2) : sProp 𝕄 := semVal (thr d L, SemLoc.dma (sIn p).sem) 0

/-- The index scratch's half `p` free to be read into. -/
def InFree (p : Fin 2) : sProp 𝕄 := iprop((∃ f, iPts d L p f) ∗ iSem0 d L p ∗ xPts d L x (q p))

/-- Half `par j` holds chunk `j`. -/
def InHolds (j : Fin 16) (f : Buf (Elt F) ((iBuf (par j)).view.loc (thr d L))) : Prop :=
  ∀ y, (iBuf (par j)).view.read (Elt F) f y = (inRef L j).view.read (Elt F) x y

/-- The read of chunk `j` in flight. -/
def InFl (j : Fin 16) : sProp 𝕄 :=
  iprop(Transfers.Flight countersEmb (thr d L) (SemLoc.dma (sIn (par j)).sem) (default : HIx 1) nI
      iprop((∃ f, ⌜InHolds d L x j f⌝ ∗ iPts d L (par j) f) ∗ xcPts d L x (q (par j)) j)
    ∗ xV.view.loc (thr d L) ↦[Finset.univ \ (inRef L j).view.set]{q (par j)} x)

/-- The read of chunk `j` landed. -/
def InGot (j : Fin 16) : sProp 𝕄 :=
  iprop((∃ f, ⌜InHolds d L x j f⌝ ∗ iPts d L (par j) f) ∗ iSem0 d L (par j) ∗ xPts d L x (q (par j)))

theorem inStart_spec (j : Fin 16) : InFree d L x q (par j) ⊢ WP d L (inStart L j) fun _ => InFl d L x q j := by
  unfold InFree InFl inStart WP iSem0 xPts
  iintro ⟨⟨%f, Hi⟩, Hs, Hx⟩
  ihave Hx' := (pointsTo_split_subset (q := q (par j)) (f := x) (S := Finset.univ) (Finset.subset_univ (inRef L j).view.set)).1 $$ Hx
  icases Hx' with ⟨Hxc, Hxr⟩
  simp only [Prog.lift]
  iapply (Transfers.wp_dmaLocal countersEmb 𝒱₀ (thr d L) none (src := inRef L j) (dst := iBuf (par j)) (Sd := (iBuf (par j)).view.set)
    (via := .same) (default : HIx 1) nI rfl (by decide) (Finset.Subset.refl _)) $$ [Hi Hs Hxc]
  · isplitl [Hxc]; · iexact Hxc
    isplitl [Hi]; · iexact Hi
    iexact Hs
  iintro Hfl
  rw [wp_ret]
  imodintro
  isplitl [Hfl]
  · iapply (Transfers.Flight_mono countersEmb (thr d L) ?_) $$ Hfl
    iintro ⟨Hi, Hxc⟩
    isplitl [Hi]
    · iexists _
      isplitr
      swap
      · iexact Hi
      · ipureintro
        intro y
        rw [View.read_write_univ]
    · iexact Hxc
  · iexact Hxr

theorem inWait_spec (j : Fin 16) : iprop(InFl d L x q j ∗ Owe d L O W) ⊢ WP d L (inWait L j) fun _ => iprop(InGot d L x q j ∗ Owe d L O W) := by
  unfold InFl InGot inWait WP iSem0 xPts Owe
  iintro ⟨⟨Hfl, Hxr⟩, #Hmw, %W', %hW, HO⟩
  simp only [Prog.lift]
  iapply (Transfers.wp_waitLocalO countersEmb 𝒱₀ (thr d L) none (dstw := iBuf (par j)) (default : HIx 1) (N := nI) rfl) $$ [Hfl HO]
  · isplitl [Hfl]; · iexact Hfl
    isplitl [HO]; · iexact HO
    iapply (Transfers.MayWaits.elim (SemLoc.dma (sIn (par j)).sem)) $$ Hmw
  iintro ⟨⟨Hi, Hxc⟩, Hs, HO⟩
  ihave Hx := (pointsTo_split_subset (q := q (par j)) (f := x) (S := Finset.univ) (Finset.subset_univ (inRef L j).view.set)).2 $$ [Hxc Hxr]
  · isplitl [Hxc] <;> iassumption
  rw [wp_ret]
  imodintro
  isplitl [Hi Hs Hx]
  · isplitl [Hi]; · iexact Hi
    isplitl [Hs]; · iexact Hs
    iexact Hx
  isplitr; · iexact Hmw
  iexists _
  isplitr
  swap; · iexact HO
  ipureintro; intro p hp
  rcases Finset.mem_insert.mp hp with hp | hp
  · exact .inr (hp ▸ rfl)
  · exact hW p hp

/-! ## The writes -/

/-- The semaphore of the writes of parity `p` at zero. -/
abbrev oSem0 (p : Fin 2) : sProp 𝕄 := semVal (thr d L, SemLoc.dma (sOut p).sem) 0

/-- The three planes' parts of parity `p` free to be filled. -/
def OutFree (p : Fin 2) : sProp 𝕄 :=
  iprop(((∃ g, oPts d L p 0 g) ∗ (∃ g, oPts d L p 1 g) ∗ (∃ g, oPts d L p 2 g)) ∗ oSem0 d L p)

/-- Chunk `j`'s elements of the result, at `f`. -/
def OutAt (f : Buf (Elt F) (oV.view.loc (thr d L))) (j : Fin 16) : sProp 𝕄 := iprop(pPts d L j f 0 ∗ pPts d L j f 1 ∗ pPts d L j f 2)

/-- What the write of plane `ch` of chunk `j` delivers. -/
abbrev OutD (j : Fin 16) (ch : Fin 3) : sProp 𝕄 :=
  iprop(pPts d L j (target (F := F) x t) ch ∗ ∃ g, oPts d L (par j) ch g)

instance outD_storable (j : Fin 16) (ch : Fin 3) : BI.Storable (upEmb : UEmb _ 𝕄) (OutD d L x t j ch) := by
  unfold OutD; infer_instance

/-- The three writes of chunk `j` in flight. -/
def OutFl (j : Fin 16) : sProp 𝕄 :=
  Transfers.Batch countersEmb (thr d L) (SemLoc.dma (sOut (par j)).sem) (default : HIx 1) (nO L) (OutD d L x t j) 3 0

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem outD_of (j : Fin 16) (ch : Fin 3) (f : Buf (Elt F) ((iBuf (par j)).view.loc (thr d L))) (hf : InHolds d L x j f)
    (g : Buf (Elt F) ((oBuf (par j) ch).view.loc (thr d L))) (hg : Filled (F := F) (par j) ch f t k0_t1_loop.trips g) :
    iprop(((outRef L j ch).view.loc (thr d L) ↦[(outRef L j ch).view.set]{fullShare}
        ((outRef L j ch).view.write (Elt F) o (ReadAs.same.apply ((oBuf (par j) ch).view.read (Elt F) g)) Finset.univ))
      ∗ oPts d L (par j) ch g) ⊢ OutD d L x t j ch := by
  iintro ⟨Ho, Hg⟩
  isplitl [Ho]
  · ihave Ho' := (Entails.of_eq (pointsTo_congr (target_of_filled L j ch x t f g o (par j) hf hg))) $$ Ho
    iexact Ho'
  · iexists g; iexact Hg

theorem outStarts_spec (j : Fin 16) (f : Buf (Elt F) ((iBuf (par j)).view.loc (thr d L))) (hf : InHolds d L x j f) :
    iprop((fPts d L (par j) f t k0_t1_loop.trips 0 ∗ fPts d L (par j) f t k0_t1_loop.trips 1 ∗ fPts d L (par j) f t k0_t1_loop.trips 2)
        ∗ oSem0 d L (par j) ∗ OutAt d L o j)
      ⊢ WP d L (outStarts L j) fun _ => OutFl d L x t j := by
  unfold OutAt OutFl outStarts outStart WP
  iintro ⟨⟨⟨%g0, %hg0, H0⟩, ⟨%g1, %hg1, H1⟩, ⟨%g2, %hg2, H2⟩⟩, Hs, ⟨P0, P1, P2⟩⟩
  imod (Transfers.batch_alloc' countersEmb (thr d L) (default : HIx 1) (nO L) (OutD d L x t j) (sm := SemLoc.dma (sOut (par j)).sem) (E := Set.univ)) $$ Hs with HB
  simp only [Prog.lift, Prog.bind_op, Prog.bind_ret]
  iapply (Transfers.wp_dmaBatch countersEmb 𝒱₀ (thr d L) none (src := oBuf (par j) 0) (dst := outRef L j 0) (Sd := (outRef L j 0).view.set) (via := .same)
    (D := OutD d L x t j) (default : HIx 1) (nO L) rfl (Finset.Subset.refl _) (by decide : 0 < 3) (Nat.zero_le _) (outD_of d L x t o j 0 f hf g0 hg0)) $$ [H0 P0 HB]
  · isplitl [H0]; · iexact H0
    isplitl [P0]; · iexact P0
    iexact HB
  iintro HB
  iapply (Transfers.wp_dmaBatch countersEmb 𝒱₀ (thr d L) none (src := oBuf (par j) 1) (dst := outRef L j 1) (Sd := (outRef L j 1).view.set) (via := .same)
    (D := OutD d L x t j) (default : HIx 1) (nO L) rfl (Finset.Subset.refl _) (by decide : 1 < 3) (Nat.zero_le _) (outD_of d L x t o j 1 f hf g1 hg1)) $$ [H1 P1 HB]
  · isplitl [H1]; · iexact H1
    isplitl [P1]; · iexact P1
    iexact HB
  iintro HB
  iapply (Transfers.wp_dmaBatch countersEmb 𝒱₀ (thr d L) none (src := oBuf (par j) 2) (dst := outRef L j 2) (Sd := (outRef L j 2).view.set) (via := .same)
    (D := OutD d L x t j) (default : HIx 1) (nO L) rfl (Finset.Subset.refl _) (by decide : 2 < 3) (Nat.zero_le _) (outD_of d L x t o j 2 f hf g2 hg2)) $$ [H2 P2 HB]
  · isplitl [H2]; · iexact H2
    isplitl [P2]; · iexact P2
    iexact HB
  iintro HB
  rw [wp_ret]
  imodintro
  iexact HB

theorem nO_pos : 0 < nO L := View.dmaCredit_pos _ (by decide)

theorem outWaits_spec (j : Fin 16) :
    iprop(OutFl d L x t j ∗ Owe d L O W)
      ⊢ WP d L (outWaits L j) fun _ => iprop(OutFree d L (par j) ∗ OutAt d L (target (F := F) x t) j ∗ Owe d L O W) := by
  unfold OutFl OutFree OutAt outWaits outWait WP Owe
  iintro ⟨HB, #Hmw, %W', %hW, HO⟩
  have hN := nO_pos L
  simp only [Prog.lift, Prog.bind_op, Prog.bind_ret]
  iapply (Transfers.wp_waitBatchO countersEmb 𝒱₀ (thr d L) none (dstw := outRef L j 0) (default : HIx 1) (N := nO L) rfl (D := OutD d L x t j) (u := 0) (by omega)) $$ [HB HO]
  · isplitl [HB]; · iexact HB
    isplitl [HO]; · iexact HO
    iapply (Transfers.MayWaits.elim (SemLoc.dma (sOut (par j)).sem)) $$ Hmw
  iintro ⟨HB, HO⟩
  iapply (Transfers.wp_waitBatchO countersEmb 𝒱₀ (thr d L) none (dstw := outRef L j 1) (default : HIx 1) (N := nO L) rfl (D := OutD d L x t j) (u := 0 + nO L) (by omega)) $$ [HB HO]
  · isplitl [HB]; · iexact HB
    isplitl [HO]; · iexact HO
    iapply (Transfers.MayWaits.elim (SemLoc.dma (sOut (par j)).sem)) $$ Hmw
  iintro ⟨HB, HO⟩
  iapply (Transfers.wp_waitBatchLastO countersEmb 𝒱₀ (thr d L) none (dstw := outRef L j 2) (default : HIx 1) (N := nO L) rfl hN (D := OutD d L x t j) (u := 0 + nO L + nO L) (by omega)) $$ [HB HO]
  · isplitl [HB]; · iexact HB
    isplitl [HO]; · iexact HO
    iapply (Transfers.MayWaits.elim (SemLoc.dma (sOut (par j)).sem)) $$ Hmw
  iintro ⟨HD, Hs, HO⟩
  ihave HD' := (Entails.of_eq (bigSep_three (F := F) (OutD d L x t j))) $$ HD
  icases HD' with ⟨⟨P0, H0⟩, ⟨P1, H1⟩, ⟨P2, H2⟩⟩
  rw [wp_ret]
  imodintro
  isplitl [H0 H1 H2 Hs]
  · isplitl [H0 H1 H2]
    · isplitl [H0]; · iexact H0
      isplitl [H1] <;> iassumption
    · iexact Hs
  isplitl [P0 P1 P2]
  · isplitl [P0]; · iexact P0
    isplitl [P1] <;> iassumption
  isplitr; · iexact Hmw
  iexists _
  isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW p hp

end Tile

end Cert.Proof.Body

end
-- ==== Proof.Chunk.lean ====
/-
  One chunk of a tile's work, from what the tile holds before it to what it holds before the next, and the whole task.
-/
module

public import proofs.«01_k».proof.Proof.Move

@[expose] public section

noncomputable section

namespace Cert.Proof.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid0.Coords)
variable (x : Buf (Elt F) (xV.view.loc (thr d L))) (t : Buf (Elt F) (tV.view.loc (thr d L))) (o : Buf (Elt F) (oV.view.loc (thr d L)))
variable (q : Fin 2 → PosShare TreeShare) (O : CellTallies nD τ sig (HIx 1)) (W : Waits sig (HIx 1))

/-! ## What the tile holds -/

/-- The parity of a number. -/
def parN (n : Nat) : Fin 2 := ⟨n % 2, Nat.mod_lt _ (by decide)⟩

theorem parN_add_two (n : Nat) : parN (n + 2) = parN n := Fin.ext (Nat.add_mod_right n 2)

/-- The read of chunk `n` in flight, or no such chunk and its half free. -/
def InAt (n : Nat) : sProp 𝕄 := if h : n < 16 then InFl d L x q ⟨n, h⟩ else InFree d L x q (parN n)

/-- Chunk `j` of the result when the writes of the chunks below `a` are done and those below `b` are started. -/
def Piece (a b : Nat) (j : Fin 16) : sProp 𝕄 :=
  if b ≤ j.val then OutAt d L o j else if a ≤ j.val then OutFl d L x t j else OutAt d L (target (F := F) x t) j

/-- All the tile's chunks of the result. -/
def Pieces (a b : Nat) : sProp 𝕄 := bigSep Finset.univ (Piece d L x t o a b)

/-- The planes' parts not yet used before chunk `n`. -/
def Unused (n : Nat) : sProp 𝕄 := iprop((if n ≤ 0 then OutFree d L 0 else emp) ∗ (if n ≤ 1 then OutFree d L 1 else emp))

/-- What the tile holds before chunk `n`. -/
def St (n : Nat) : sProp 𝕄 :=
  iprop(tPts d L t ∗ InAt d L x q n ∗ InFree d L x q (parN (n + 1)) ∗ Unused d L n ∗ Pieces d L x t o (n - 2) n ∗ Owe d L O W)

theorem pieces_wait (a b : Nat) (j : Fin 16) (ha : j.val = a) (hb : a < b) :
    Pieces d L x t o a b ⊢ iprop(OutFl d L x t j ∗ (OutAt d L (target (F := F) x t) j -∗ Pieces d L x t o (a + 1) b)) := by
  unfold Pieces
  rw [bigSep_univ_at (Piece d L x t o a b) j, bigSep_univ_at (Piece d L x t o (a + 1) b) j]
  rw [show Piece d L x t o a b j = OutFl d L x t j by unfold Piece; rw [if_neg (by omega), if_pos (by omega)],
    show Piece d L x t o (a + 1) b j = OutAt d L (target (F := F) x t) j by unfold Piece; rw [if_neg (by omega), if_neg (by omega)]]
  rw [show bigSep (Finset.univ.erase j) (Piece d L x t o a b) = bigSep (Finset.univ.erase j) (Piece d L x t o (a + 1) b) from
    bigSep_congr fun i hi => by
      have hne : i.val ≠ j.val := fun e => Finset.ne_of_mem_erase hi (Fin.ext e)
      unfold Piece
      by_cases h1 : b ≤ i.val
      · rw [if_pos h1, if_pos h1]
      · rw [if_neg h1, if_neg h1]
        by_cases h2 : a ≤ i.val
        · rw [if_pos h2, if_pos (by omega)]
        · rw [if_neg h2, if_neg (by omega)]]
  iintro ⟨H, Hr⟩
  isplitl [H]; · iexact H
  iintro H
  isplitl [H] <;> iassumption

theorem pieces_start (a b : Nat) (j : Fin 16) (hb : j.val = b) (ha : a ≤ b) :
    Pieces d L x t o a b ⊢ iprop(OutAt d L o j ∗ (OutFl d L x t j -∗ Pieces d L x t o a (b + 1))) := by
  unfold Pieces
  rw [bigSep_univ_at (Piece d L x t o a b) j, bigSep_univ_at (Piece d L x t o a (b + 1)) j]
  rw [show Piece d L x t o a b j = OutAt d L o j by unfold Piece; rw [if_pos (by omega)],
    show Piece d L x t o a (b + 1) j = OutFl d L x t j by unfold Piece; rw [if_neg (by omega), if_pos (by omega)]]
  rw [show bigSep (Finset.univ.erase j) (Piece d L x t o a b) = bigSep (Finset.univ.erase j) (Piece d L x t o a (b + 1)) from
    bigSep_congr fun i hi => by
      have hne : i.val ≠ j.val := fun e => Finset.ne_of_mem_erase hi (Fin.ext e)
      unfold Piece
      by_cases h1 : b ≤ i.val
      · rw [if_pos h1, if_pos (by omega)]
      · rw [if_neg h1, if_neg (show ¬b + 1 ≤ i.val by omega)]]
  iintro ⟨H, Hr⟩
  isplitl [H]; · iexact H
  iintro H
  isplitl [H] <;> iassumption

/-! ## The steps of a chunk -/

theorem nextIn_spec (j : Fin 16) : InFree d L x q (parN (j.val + 1)) ⊢ WP d L (nextIn L j) fun _ => InAt d L x q (j.val + 1) := by
  unfold InAt
  by_cases h : j.val + 1 < 16
  · rw [nextIn_pos L j h, dif_pos h]
    exact inStart_spec d L x q ⟨j.val + 1, h⟩
  · rw [nextIn_neg L j h, dif_neg h]
    unfold WP
    rw [wp_pure]
    iintro H; imodintro; iexact H

theorem prevOut_spec (j : Fin 16) :
    iprop(Unused d L j.val ∗ Pieces d L x t o (j.val - 2) j.val ∗ Owe d L O W)
      ⊢ WP d L (prevOut L j) fun _ => iprop(OutFree d L (par j) ∗ Unused d L (j.val + 1) ∗ Pieces d L x t o (j.val - 1) j.val ∗ Owe d L O W) := by
  by_cases h : 2 ≤ j.val
  · rw [prevOut_pos L j h]
    have hj : j.val - 2 < 16 := lt_of_le_of_lt (Nat.sub_le _ _) j.isLt
    have hp : par ⟨j.val - 2, hj⟩ = par j := Fin.ext (show (j.val - 2) % 2 = j.val % 2 by omega)
    have hu : ∀ n, 2 ≤ n → Unused (F := F) d L n = iprop(emp ∗ emp) := fun n hn => by
      unfold Unused; rw [if_neg (by omega), if_neg (by omega)]
    rw [hu _ h, hu (j.val + 1) (by omega)]
    iintro ⟨-, HP, HO⟩
    ihave HP' := (pieces_wait d L x t o (j.val - 2) j.val ⟨j.val - 2, hj⟩ rfl (by omega)) $$ HP
    icases HP' with ⟨Hfl, Hback⟩
    iapply ((outWaits_spec d L x t O W ⟨j.val - 2, hj⟩).trans (wp_wand frame _ _)) $$ [Hfl HO]
    · isplitl [Hfl] <;> iassumption
    iintro %_ ⟨Hf, Hd, HO⟩
    rw [hp, show j.val - 2 + 1 = j.val - 1 by omega]
    isplitl [Hf]; · iexact Hf
    isplitr
    · isplitr <;> iempintro
    isplitl [Hback Hd]
    · iapply Hback; iexact Hd
    · iexact HO
  · rw [prevOut_neg L j h]
    unfold WP
    rw [wp_pure, show j.val - 1 = j.val - 2 by omega]
    have hj : j = 0 ∨ j = 1 := by
      have : j.val = 0 ∨ j.val = 1 := by omega
      rcases this with h | h
      · exact .inl (Fin.ext h)
      · exact .inr (Fin.ext h)
    rcases hj with rfl | rfl
    · unfold Unused
      rw [if_pos (by decide), if_pos (by decide), if_neg (by decide), if_pos (by decide)]
      iintro ⟨⟨H0, H1⟩, HP, HO⟩
      imodintro
      isplitl [H0]; · iexact H0
      isplitl [H1]
      · isplitr; · iempintro
        iexact H1
      isplitl [HP] <;> iassumption
    · unfold Unused
      rw [if_neg (by decide), if_pos (by decide), if_neg (by decide), if_neg (by decide)]
      iintro ⟨⟨-, H1⟩, HP, HO⟩
      imodintro
      isplitl [H1]; · iexact H1
      isplitr
      · isplitr <;> iempintro
      isplitl [HP] <;> iassumption

/-- One chunk. -/
theorem chunk_spec (j : Fin 16) : St d L x t o q O W j.val ⊢ WP d L (chunk L j) fun _ => St d L x t o q O W (j.val + 1) := by
  unfold St chunk
  rw [show InAt d L x q j.val = InFl d L x q j from dif_pos j.isLt]
  iintro ⟨Ht, Hin, Hfree, Hun, HP, HO⟩
  iapply (use (nextIn_spec d L x q j)) $$ Hfree
  iintro %_ Hnext
  iapply (use (inWait_spec d L x q O W j)) $$ [Hin HO]
  · isplitl [Hin] <;> iassumption
  iintro %_ ⟨Hgot, HO⟩
  iapply (use (prevOut_spec d L x t o O W j)) $$ [Hun HP HO]
  · isplitl [Hun]; · iexact Hun
    isplitl [HP] <;> iassumption
  iintro %_ ⟨Hof, Hun, HP, HO⟩
  unfold InGot OutFree
  icases Hgot with ⟨⟨%f, %hf, Hi⟩, His, Hx⟩
  icases Hof with ⟨⟨H0, H1, H2⟩, Hos⟩
  iapply (use (fill_spec d L (par j) f t)) $$ [Ht Hi H0 H1 H2]
  · isplitl [Ht]; · iexact Ht
    isplitl [Hi]; · iexact Hi
    isplitl [H0]; · iexact H0
    isplitl [H1] <;> iassumption
  iintro %_ ⟨Ht, Hi, Hf⟩
  ihave HP' := (pieces_start d L x t o (j.val - 1) j.val j rfl (by omega)) $$ HP
  icases HP' with ⟨Hto, Hback⟩
  iapply ((outStarts_spec d L x t o j f hf).trans (wp_wand frame _ _)) $$ [Hf Hos Hto]
  · isplitl [Hf]; · iexact Hf
    isplitl [Hos] <;> iassumption
  iintro %_ Hfl
  isplitl [Ht]; · iexact Ht
  isplitl [Hnext]; · iexact Hnext
  isplitl [Hi His Hx]
  · rw [show parN (j.val + 1 + 1) = par j from parN_add_two j.val]
    unfold InFree
    isplitl [Hi]; · iexists f; iexact Hi
    isplitl [His] <;> iassumption
  isplitl [Hun]; · iexact Hun
  isplitl [Hback Hfl]
  · rw [show j.val + 1 - 2 = j.val - 1 by omega]
    iapply Hback; iexact Hfl
  · iexact HO

/-! ## The whole task -/

/-- The table's copy: the tile's own copy of it, at the table's words. -/
theorem tableCopy_spec (qc : PosShare TreeShare) (c : Buf (Elt F) (cV.view.loc (thr d L))) :
    iprop((cV.view.loc (thr d L) ↦{qc} c) ∗ (∃ g, tPts d L g) ∗ semVal (thr d L, SemLoc.dma cc0_scoped0.sem) 0 ∗ Owe d L O W)
      ⊢ WP d L (tableCopy L) fun _ => iprop((cV.view.loc (thr d L) ↦{qc} c) ∗ tPts d L c ∗ semVal (thr d L, SemLoc.dma cc0_scoped0.sem) 0 ∗ Owe d L O W) := by
  unfold tableCopy WP Owe
  have hcs : cV.view.set = Finset.univ := View.set_whole _
  iintro ⟨Hc, ⟨%g, Ht⟩, Hs, #Hmw, %W', %hW, HO⟩
  ihave Hc' := (Entails.of_eq (show (cV.view.loc (thr d L) ↦{qc} c : sProp 𝕄) = cV.view.loc (thr d L) ↦[cV.view.set]{qc} c by rw [hcs])) $$ Hc
  simp only [Prog.lift, Prog.bind_op, Prog.bind_ret]
  iapply (Transfers.wp_dmaLocal countersEmb 𝒱₀ (thr d L) none (src := cV) (dst := tV) (Sd := Finset.univ)
    (via := .same) (default : HIx 1) tV.view.dmaCredit rfl (by decide) (Finset.subset_univ _)) $$ [Hc' Ht Hs]
  · isplitl [Hc']; · iexact Hc'
    isplitl [Ht]; · iexact Ht
    iexact Hs
  iintro Hfl
  iapply (Transfers.wp_waitLocalO countersEmb 𝒱₀ (thr d L) none (dstw := tV) (default : HIx 1) (N := tV.view.dmaCredit) rfl) $$ [Hfl HO]
  · isplitl [Hfl]; · iexact Hfl
    isplitl [HO]; · iexact HO
    iapply (Transfers.MayWaits.elim (SemLoc.dma cc0_scoped0.sem)) $$ Hmw
  iintro ⟨⟨Ht, Hc⟩, Hs, HO⟩
  rw [wp_ret]
  imodintro
  isplitl [Hc]
  · iapply (Entails.of_eq (show (cV.view.loc (thr d L) ↦[cV.view.set]{qc} c : sProp 𝕄) = cV.view.loc (thr d L) ↦{qc} c by rw [hcs])) $$ Hc
  isplitl [Ht]
  · iapply (Entails.of_eq (congrArg (fun f => (tV.view.loc (thr d L) ↦{fullShare} f : sProp 𝕄))
      ((View.write_whole_univ _ _ _).trans (View.read_whole _ _)))) $$ Ht
  isplitl [Hs]; · iexact Hs
  isplitr; · iexact Hmw
  iexists _
  isplitr
  swap; · iexact HO
  ipureintro; intro p hp
  rcases Finset.mem_insert.mp hp with hp | hp
  · exact .inr (hp ▸ rfl)
  · exact hW p hp

/-- What the tile holds at its end. -/
def End : sProp 𝕄 :=
  iprop(tPts d L t ∗ InFree d L x q 0 ∗ InFree d L x q 1 ∗ OutFree d L 0 ∗ OutFree d L 1
    ∗ (bigSep Finset.univ fun j => OutAt d L (target (F := F) x t) j) ∗ Owe d L O W)

/-- The last chunks' waits. -/
theorem drain_spec : St d L x t o q O W 16 ⊢ WP d L (do outWaits L 14; outWaits L 15) fun _ => End d L x t q O W := by
  unfold St End
  rw [show InAt d L x q 16 = InFree d L x q 0 from dif_neg (by decide)]
  iintro ⟨Ht, H0, H1, -, HP, HO⟩
  ihave HP' := (pieces_wait d L x t o 14 16 14 rfl (by decide)) $$ HP
  icases HP' with ⟨Hfl, Hback⟩
  iapply (use (outWaits_spec d L x t O W 14)) $$ [Hfl HO]
  · isplitl [Hfl] <;> iassumption
  iintro %_ ⟨Hf0, Hd, HO⟩
  ihave HP := Hback $$ Hd
  ihave HP' := (pieces_wait d L x t o 15 16 15 rfl (by decide)) $$ HP
  icases HP' with ⟨Hfl, Hback⟩
  iapply ((outWaits_spec d L x t O W 15).trans (wp_wand frame _ _)) $$ [Hfl HO]
  · isplitl [Hfl] <;> iassumption
  iintro %_ ⟨Hf1, Hd, HO⟩
  ihave HP := Hback $$ Hd
  ihave HP' := (Entails.of_eq (show Pieces d L x t o (15 + 1) 16 = bigSep Finset.univ fun j => OutAt d L (target (F := F) x t) j from
    bigSep_congr fun j _ => by unfold Piece; rw [if_neg (by omega), if_neg (by omega)])) $$ HP
  isplitl [Ht]; · iexact Ht
  isplitl [H0]; · iexact H0
  isplitl [H1]; · iexact H1
  isplitl [Hf0]; · iexact Hf0
  isplitl [Hf1]; · iexact Hf1
  isplitl [HP'] <;> iassumption

/-- A chunk at the head of a sequence. -/
theorem chunk_then (n : Nat) (j : Fin 16) (hj : j.val = n) {β : Type} {k : TProg F L β} {Q : β → sProp 𝕄}
    (h : St d L x t o q O W (n + 1) ⊢ WP d L k Q) : St d L x t o q O W n ⊢ WP d L (chunk L j >>= fun _ => k) Q := by
  subst hj
  unfold WP at h ⊢
  rw [wp_bind]
  exact (chunk_spec d L x t o q O W j).trans (wp_mono frame _ _ fun _ => h)

/-- All the chunks and the last waits. -/
theorem chunks_spec : St d L x t o q O W 0 ⊢ WP d L (do
    chunk L 0; chunk L 1; chunk L 2; chunk L 3; chunk L 4; chunk L 5; chunk L 6; chunk L 7
    chunk L 8; chunk L 9; chunk L 10; chunk L 11; chunk L 12; chunk L 13; chunk L 14; chunk L 15
    outWaits L 14; outWaits L 15) fun _ => End d L x t q O W := by
  refine chunk_then d L x t o q O W 0 0 rfl <| chunk_then d L x t o q O W 1 1 rfl <| chunk_then d L x t o q O W 2 2 rfl <|
    chunk_then d L x t o q O W 3 3 rfl <| chunk_then d L x t o q O W 4 4 rfl <| chunk_then d L x t o q O W 5 5 rfl <|
    chunk_then d L x t o q O W 6 6 rfl <| chunk_then d L x t o q O W 7 7 rfl <| chunk_then d L x t o q O W 8 8 rfl <|
    chunk_then d L x t o q O W 9 9 rfl <| chunk_then d L x t o q O W 10 10 rfl <| chunk_then d L x t o q O W 11 11 rfl <|
    chunk_then d L x t o q O W 12 12 rfl <| chunk_then d L x t o q O W 13 13 rfl <| chunk_then d L x t o q O W 14 14 rfl <|
    chunk_then d L x t o q O W 15 15 rfl (drain_spec d L x t o q O W)

/-- The body: the result's chunks from anything to their values, everything else handed back. -/
theorem body_spec (qc : PosShare TreeShare) :
    iprop((cV.view.loc (thr d L) ↦{qc} t) ∗ (∃ g, tPts d L g) ∗ semVal (thr d L, SemLoc.dma cc0_scoped0.sem) 0
        ∗ InFree d L x q 0 ∗ InFree d L x q 1 ∗ OutFree d L 0 ∗ OutFree d L 1 ∗ (bigSep Finset.univ fun j => OutAt d L o j) ∗ Owe d L O W)
      ⊢ WP d L (body L) fun _ => iprop((cV.view.loc (thr d L) ↦{qc} t) ∗ semVal (thr d L, SemLoc.dma cc0_scoped0.sem) 0 ∗ End d L x t q O W) := by
  unfold body
  iintro ⟨Hc, Ht, Hs, H0, H1, Ho0, Ho1, HP, HO⟩
  iapply (use (tableCopy_spec d L O W qc t)) $$ [Hc Ht Hs HO]
  · isplitl [Hc]; · iexact Hc
    isplitl [Ht]; · iexact Ht
    isplitl [Hs] <;> iassumption
  iintro %_ ⟨Hc, Ht, Hs, HO⟩
  iapply (use (show InFree d L x q 0 ⊢ WP d L (inStart L 0) (fun _ => InFl d L x q 0) from inStart_spec d L x q 0)) $$ H0
  iintro %_ Hfl
  iapply ((chunks_spec d L x t o q O W).trans (wp_wand frame _ _)) $$ [Ht Hfl H1 Ho0 Ho1 HP HO]
  · unfold St Unused
    rw [show InAt d L x q 0 = InFl d L x q 0 from dif_pos (by decide), if_pos (by decide), if_pos (by decide)]
    isplitl [Ht]; · iexact Ht
    isplitl [Hfl]; · iexact Hfl
    isplitl [H1]; · iexact H1
    isplitl [Ho0 Ho1]
    · isplitl [Ho0] <;> iassumption
    isplitl [HP]
    · iapply (Entails.of_eq (show (bigSep Finset.univ fun j => OutAt d L o j) = Pieces d L x t o (0 - 2) 0 from
        bigSep_congr fun j _ => by unfold Piece; rw [if_pos (Nat.zero_le _)])) $$ HP
    · iexact HO
  iintro %_ H
  isplitl [Hc]; · iexact Hc
  isplitl [Hs] <;> iassumption

end Tile

end Cert.Proof.Body

end
-- ==== Proof.Tile.lean ====
/-
  The task of one tile, from what its start hands it and its own scratch to what its end hands back.
-/
module

public import proofs.«01_k».proof.Proof.Chunk

@[expose] public section

noncomputable section

namespace Cert.Proof.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A buffer and its parts -/

/-- A buffer at some contents is its parts, each at some contents. -/
theorem parts_eq {ℓ : Loc nD τ sig} {I : Type} [Fintype I] [DecidableEq I] [Nonempty I] (A : I → Finset (Idx ℓ))
    (hd : ∀ i j, i ≠ j → Disjoint (A i) (A j)) (hc : ∀ x, ∃ i, x ∈ A i) :
    (iprop(∃ f, ℓ ↦{fullShare} f) : sProp 𝕄) = bigSep Finset.univ fun i => iprop(∃ f, ℓ ↦[A i]{fullShare} f) := by
  have hu : Finset.univ.biUnion A = Finset.univ := by
    ext x; simpa using hc x
  have h1 : (iprop(∃ f, ℓ ↦{fullShare} f) : sProp 𝕄) ⊢ bigSep Finset.univ fun i => iprop(∃ f, ℓ ↦[A i]{fullShare} f) := by
    iintro ⟨%f, H⟩
    ihave H' := (Entails.of_eq (show (ℓ ↦{fullShare} f : sProp 𝕄) = bigSep Finset.univ fun i => ℓ ↦[A i]{fullShare} f by
      rw [← pointsTo_biUnion Finset.univ A (fun i _ j _ => hd i j), hu])) $$ H
    iapply (show (bigSep Finset.univ fun i => (ℓ ↦[A i]{fullShare} f : sProp 𝕄)) ⊢ bigSep Finset.univ fun i => iprop(∃ f, ℓ ↦[A i]{fullShare} f) from
      bigSep_mono fun i _ => show (ℓ ↦[A i]{fullShare} f : sProp 𝕄) ⊢ iprop(∃ f, ℓ ↦[A i]{fullShare} f) by iintro H; iexists f; iexact H) $$ H'
  have h2 : (bigSep Finset.univ fun i => iprop(∃ f, ℓ ↦[A i]{fullShare} f)) ⊢ (iprop(∃ f, ℓ ↦{fullShare} f) : sProp 𝕄) := by
    by_cases hn : Nonempty (Buf (Elt F) ℓ)
    · refine (bigSep_exists_pi Finset.univ (fun i (f : Buf (Elt F) ℓ) => (ℓ ↦[A i]{fullShare} f : sProp 𝕄))).trans ?_
      iintro ⟨%fs, H⟩
      ihave H' := (pointsTo_biUnion_join (ℓ := ℓ) (q := fullShare) Finset.univ A fs (fs (Classical.arbitrary I)) (fun i _ j _ => hd i j)) $$ H
      icases H' with ⟨%g, -, Hg⟩
      rw [hu]
      iexists g; iexact Hg
    · rw [bigSep_univ_at _ (Classical.arbitrary I)]
      iintro ⟨⟨%f, -⟩, -⟩
      exact absurd ⟨f⟩ hn
  exact BI.Entails.antisymm h1 h2

theorem mem_iSet (p : Fin 2) (x : S32x512.Idx) : x ∈ (iBuf p).view.set ↔ (x 0).val / 16 = p.val := by
  have e' : (iBuf p).view.set = (Rect.unit (s := S32x512) ![16 * p.val, 0] S16x512.size (iBuf_inb p)).set := View.set_slice_whole _ _
  rw [e', Rect.mem_set_unit]
  constructor
  · intro h
    have h0 : 16 * p.val ≤ (x 0).val ∧ (x 0).val < 16 * p.val + 16 := h 0
    omega
  · intro h a
    match a with
    | 0 => show 16 * p.val ≤ (x 0).val ∧ (x 0).val < 16 * p.val + 16; omega
    | 1 => exact ⟨Nat.zero_le _, (x 1).isLt.trans_eq (Nat.zero_add 512).symm⟩

theorem mem_oSet (p : Fin 2) (ch : Fin 3) (x : S96x512.Idx) : x ∈ (oBuf p ch).view.set ↔ (x 0).val / 16 = 3 * p.val + ch.val := by
  have e' : (oBuf p ch).view.set = (Rect.unit (s := S96x512) ![16 * (3 * p.val + ch.val), 0] S16x512.size (oBuf_inb p ch)).set := View.set_slice_whole _ _
  rw [e', Rect.mem_set_unit]
  constructor
  · intro h
    have h0 : 16 * (3 * p.val + ch.val) ≤ (x 0).val ∧ (x 0).val < 16 * (3 * p.val + ch.val) + 16 := h 0
    omega
  · intro h a
    match a with
    | 0 => show 16 * (3 * p.val + ch.val) ≤ (x 0).val ∧ (x 0).val < 16 * (3 * p.val + ch.val) + 16; omega
    | 1 => exact ⟨Nat.zero_le _, (x 1).isLt.trans_eq (Nat.zero_add 512).symm⟩

theorem iSet_disj (p p' : Fin 2) (h : p ≠ p') : Disjoint (iBuf p).view.set (iBuf p').view.set :=
  Finset.disjoint_left.mpr fun x hx hx' => h (Fin.ext (((mem_iSet p x).mp hx).symm.trans ((mem_iSet p' x).mp hx')))

theorem iSet_cover (x : S32x512.Idx) : ∃ p, x ∈ (iBuf p).view.set := by
  have hx : (x 0).val < 32 := (x 0).isLt
  exact ⟨⟨(x 0).val / 16, by omega⟩, (mem_iSet _ x).mpr rfl⟩

theorem oSet_disj (i i' : Fin 2 × Fin 3) (h : i ≠ i') : Disjoint (oBuf i.1 i.2).view.set (oBuf i'.1 i'.2).view.set := by
  refine Finset.disjoint_left.mpr fun x hx hx' => h ?_
  have h1 := (mem_oSet i.1 i.2 x).mp hx
  have h2 := (mem_oSet i'.1 i'.2 x).mp hx'
  have := i.2.isLt; have := i'.2.isLt
  exact Prod.ext (Fin.ext (by omega)) (Fin.ext (by omega))

theorem oSet_cover (x : S96x512.Idx) : ∃ i : Fin 2 × Fin 3, x ∈ (oBuf i.1 i.2).view.set := by
  have hx : (x 0).val < 96 := (x 0).isLt
  refine ⟨(⟨(x 0).val / 48, by omega⟩, ⟨(x 0).val / 16 % 3, by omega⟩), (mem_oSet _ _ x).mpr ?_⟩
  show (x 0).val / 16 = 3 * ((x 0).val / 48) + (x 0).val / 16 % 3
  omega

section Tile

variable [FloatOps F] (d : Dev nD) (L : grid0.Coords)

/-- The index scratch is its two halves. -/
theorem iScratch_eq :
    (iprop(∃ f, (thr d L).loc cc0_scratch1 ↦{fullShare} f) : sProp 𝕄) = iprop((∃ f, iPts d L 0 f) ∗ ∃ f, iPts d L 1 f) := by
  exact (parts_eq (ℓ := (thr d L).loc cc0_scratch1) (fun p : Fin 2 => (iBuf p).view.set) iSet_disj iSet_cover).trans (bigSep_univ_two _)

/-- The result scratch is its six parts. -/
theorem oScratch_eq :
    (iprop(∃ f, (thr d L).loc cc0_scratch2 ↦{fullShare} f) : sProp 𝕄)
      = iprop(((∃ g, oPts d L 0 0 g) ∗ (∃ g, oPts d L 0 1 g) ∗ (∃ g, oPts d L 0 2 g)) ∗ (∃ g, oPts d L 1 0 g) ∗ (∃ g, oPts d L 1 1 g) ∗ (∃ g, oPts d L 1 2 g)) := by
  refine (parts_eq (ℓ := (thr d L).loc cc0_scratch2) (fun i : Fin 2 × Fin 3 => (oBuf i.1 i.2).view.set) oSet_disj oSet_cover).trans ?_
  rw [bigSep_univ_prod, bigSep_univ_two, bigSep_three, bigSep_three]

/-! ## The tile's own scratch -/

abbrev cell0 (s : DmaSems sig S_) : GSem nD τ sig := (thr d L, .dma s.sem)

/-- The five transfer semaphores are among the tile's own. -/
theorem ownSems0_V :
    (ownSems0 (thr d L) : sProp 𝕄)
      = iprop(semVal (cell0 d L cc0_scoped0) 0 ∗ semVal (cell0 d L cc0_scratch3) 0 ∗ semVal (cell0 d L cc0_scratch4) 0
          ∗ semVal (cell0 d L cc0_scratch5) 0 ∗ semVal (cell0 d L cc0_scratch6) 0
          ∗ bigSep (((((((ownCells (thr d L)).erase (cell0 d L cc0_scoped0)).erase (cell0 d L cc0_scratch3)).erase (cell0 d L cc0_scratch4)).erase
              (cell0 d L cc0_scratch5)).erase (cell0 d L cc0_scratch6))) fun g => semVal g 0) := by
  have hm : ∀ s : DmaSems sig S_, (SemLoc.dma s.sem : SemLoc sig).isScoped .scVector = true → cell0 d L s ∈ ownCells (thr d L) :=
    fun s h => (mem_ownCells (g := cell0 d L s)).mpr ⟨rfl, h⟩
  have hne : ∀ s s' : DmaSems sig S_, (SemLoc.dma s.sem : SemLoc sig) ≠ SemLoc.dma s'.sem → cell0 d L s ≠ cell0 d L s' :=
    fun _ _ h e => h (congrArg Prod.snd e)
  unfold SparseCore.Cfg.ownSems0
  rw [SparseCore.bigSep_erase' (hm cc0_scoped0 (by decide)),
    SparseCore.bigSep_erase' (Finset.mem_erase.mpr ⟨hne cc0_scratch3 cc0_scoped0 (by decide), hm cc0_scratch3 (by decide)⟩),
    SparseCore.bigSep_erase' (Finset.mem_erase.mpr ⟨hne cc0_scratch4 cc0_scratch3 (by decide), Finset.mem_erase.mpr
      ⟨hne cc0_scratch4 cc0_scoped0 (by decide), hm cc0_scratch4 (by decide)⟩⟩),
    SparseCore.bigSep_erase' (Finset.mem_erase.mpr ⟨hne cc0_scratch5 cc0_scratch4 (by decide), Finset.mem_erase.mpr
      ⟨hne cc0_scratch5 cc0_scratch3 (by decide), Finset.mem_erase.mpr ⟨hne cc0_scratch5 cc0_scoped0 (by decide), hm cc0_scratch5 (by decide)⟩⟩⟩),
    SparseCore.bigSep_erase' (Finset.mem_erase.mpr ⟨hne cc0_scratch6 cc0_scratch5 (by decide), Finset.mem_erase.mpr
      ⟨hne cc0_scratch6 cc0_scratch4 (by decide), Finset.mem_erase.mpr ⟨hne cc0_scratch6 cc0_scratch3 (by decide), Finset.mem_erase.mpr
        ⟨hne cc0_scratch6 cc0_scoped0 (by decide), hm cc0_scratch6 (by decide)⟩⟩⟩⟩)]

abbrev ref0 (b : Ref sig .scVector) : DevRef τ sig := (Proc.scVector (cT L) (jT L)).devRef b

/-- The three scratch buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cT L) (jT L))).erase (ref0 L cc0_scratch0)).erase (ref0 L cc0_scratch1)).erase (ref0 L cc0_scratch2))
              fun b => iprop(∃ f, ((d, b) : Loc nD τ sig) ↦{fullShare} f)) := by
  have hne : ∀ b b' : Ref sig .scVector, b ≠ b' → ref0 L b ≠ ref0 L b' := fun _ _ h e => h (Proc.devRef_injective _ e)
  have hm0 := SparseCore.Cfg.mem_ownRefs_of_owner (p := Proc.scVector (cT L) (jT L)) (b := ref0 L cc0_scratch0) rfl
  have hm1 := SparseCore.Cfg.mem_ownRefs_of_owner (p := Proc.scVector (cT L) (jT L)) (b := ref0 L cc0_scratch1) rfl
  have hm2 := SparseCore.Cfg.mem_ownRefs_of_owner (p := Proc.scVector (cT L) (jT L)) (b := ref0 L cc0_scratch2) rfl
  unfold SparseCore.Cfg.ownBufs
  refine (SparseCore.bigSep_erase' hm0).trans ?_
  rw [SparseCore.bigSep_erase' (Finset.mem_erase.mpr ⟨hne cc0_scratch1 cc0_scratch0 (by decide), hm1⟩),
    SparseCore.bigSep_erase' (Finset.mem_erase.mpr ⟨hne cc0_scratch2 cc0_scratch1 (by decide), Finset.mem_erase.mpr
      ⟨hne cc0_scratch2 cc0_scratch0 (by decide), hm2⟩⟩)]

/-! ## The task -/

/-- The two halves of a share. -/
def half (q : PosShare TreeShare) : Fin 2 → PosShare TreeShare | 0 => q.left | 1 => q.right

variable (x : Buf (Elt F) (xV.view.loc (thr d L))) (t : Buf (Elt F) (cV.view.loc (thr d L)))
variable (o : Buf (Elt F) (oV.view.loc (thr d L))) (q : PosShare TreeShare)

/-- A tile's share of `x` and of the table, and its chunks of the result. -/
def tileHas (f : Buf (Elt F) (oV.view.loc (thr d L))) : sProp 𝕄 :=
  iprop(xPts d L x q ∗ (cV.view.loc (thr d L) ↦{q} t) ∗ bigSep Finset.univ fun j => OutAt d L f j)

/-- The task of the tile at `L`: its chunks of the result end at their values. -/
theorem tile_body (hF : (K (F := F)).Facts) (O : CellTallies nD τ sig (HIx 1)) (W : Waits sig (HIx 1)) (hO : ∀ g, O g none = 0) :
    iprop(levAts (K (F := F)).L (K (F := F)).lev ∗ emp ∗ tileHas d L x t q o ∗ scopedBufs (thr d L) ∗ scopedSems0 (thr d L) ∗ owes (thr d L) O W)
      ⊢ WP d L (printed L) fun _ => iprop(tileHas d L x t q (target (F := F) x t) ∗ scopedBufs (thr d L) ∗ scopedSems0 (thr d L)
            ∗ ∃ W', ⌜∀ p ∈ W', p ∈ W ∨ p.2 = none⌝ ∗ owes (thr d L) O W') := by
  rw [printed_eq L, (K (F := F)).scopedBufs_V hF d (cT L) (jT L), SparseCore.Cfg.scopedSems0_V (Val := Elt F) d (cT L) (jT L),
    ownSems0_V d L, ownBufs_V d L, iScratch_eq d L, oScratch_eq d L]
  unfold tileHas
  iintro ⟨#Hlv, -, ⟨Hx, Hc, Ho⟩, ⟨Ht, ⟨Hi0, Hi1⟩, ⟨Hg0, Hg1⟩, Hbufs⟩, ⟨Hs0, Hs3, Hs4, Hs5, Hs6, Hsems⟩, HO⟩
  ihave #Hmw := (show levAts (K (F := F)).L (K (F := F)).lev ⊢ Transfers.MayWaits (thr d L) (default : HIx 1) O from
    (K (F := F)).mayWaits_none (thr := V d (cT L) (jT L)) hO) $$ Hlv
  ihave Hx' := (pointsTo_share (PosShare.mem_left_op_right q)).1 $$ Hx
  icases Hx' with ⟨Hx0, Hx1⟩
  iapply ((body_spec d L x t o (half q) O W q).trans (wp_wand frame _ _)) $$ [Hx0 Hx1 Hc Ho Ht Hi0 Hi1 Hg0 Hg1 Hs0 Hs3 Hs4 Hs5 Hs6 HO]
  · isplitl [Hc]; · iexact Hc
    isplitl [Ht]; · iexact Ht
    isplitl [Hs0]; · iexact Hs0
    unfold InFree OutFree Owe
    isplitl [Hi0 Hs3 Hx0]
    · isplitl [Hi0]; · iexact Hi0
      isplitl [Hs3]; · iexact Hs3
      iexact Hx0
    isplitl [Hi1 Hs4 Hx1]
    · isplitl [Hi1]; · iexact Hi1
      isplitl [Hs4]; · iexact Hs4
      iexact Hx1
    isplitl [Hg0 Hs5]
    · isplitl [Hg0]; · iexact Hg0
      iexact Hs5
    isplitl [Hg1 Hs6]
    · isplitl [Hg1]; · iexact Hg1
      iexact Hs6
    isplitl [Ho]; · iexact Ho
    isplitr; · iexact Hmw
    iexists W
    isplitr
    · ipureintro; exact fun p hp => .inl hp
    · iexact HO
  unfold End InFree OutFree Owe
  iintro %_ ⟨Hc, Hs0, Ht, ⟨Hi0, Hs3, Hx0⟩, ⟨Hi1, Hs4, Hx1⟩, ⟨Hg0, Hs5⟩, ⟨Hg1, Hs6⟩, Ho, -, HO⟩
  isplitl [Hx0 Hx1 Hc Ho]
  · isplitl [Hx0 Hx1]
    · iapply (pointsTo_share (PosShare.mem_left_op_right q)).2
      isplitl [Hx0]; · iexact Hx0
      iexact Hx1
    isplitl [Hc]; · iexact Hc
    iexact Ho
  isplitl [Ht Hi0 Hi1 Hg0 Hg1 Hbufs]
  · isplitl [Ht]; · iexists _; iexact Ht
    isplitl [Hi0 Hi1]
    · isplitl [Hi0] <;> iassumption
    isplitl [Hg0 Hg1]
    · isplitl [Hg0] <;> iassumption
    iexact Hbufs
  isplitl [Hs0 Hs3 Hs4 Hs5 Hs6 Hsems]
  · isplitl [Hs0]; · iexact Hs0
    isplitl [Hs3]; · iexact Hs3
    isplitl [Hs4]; · iexact Hs4
    isplitl [Hs5]; · iexact Hs5
    isplitl [Hs6]; · iexact Hs6
    iexact Hsems
  iexact HO

end Tile

end Cert.Proof.Body

end
-- ==== Proof.Launch.lean ====
/-
  The program's run: the table's flattening on the host, the launch of the 32 tiles, and what memory holds at the end.
-/
module

public import proofs.«01_k».proof.Proof.Tile

@[expose] public section

noncomputable section

namespace Cert.Proof.Body

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A share cut in equal parts -/

/-- Part `i` of a share cut in `n + 1`: each part but the last is the left half of what is left. -/
def cut : (n : ℕ) → PosShare TreeShare → Fin (n + 1) → PosShare TreeShare
  | 0, q, _ => q
  | n + 1, q, i => Fin.cases q.left (cut n q.right) i

theorem bigSep_first {n : ℕ} (Φ : Fin (n + 1) → sProp 𝕄) :
    bigSep Finset.univ Φ = iprop(Φ 0 ∗ bigSep Finset.univ fun i : Fin n => Φ i.succ) := by
  rw [bigSep_univ_at Φ 0]
  rw [show (Finset.univ : Finset (Fin (n + 1))).erase 0 = Finset.univ.map (Fin.succEmb n) by
    ext i; simp [Fin.exists_succ_eq], bigSep_map]
  rfl

theorem pts_cut {ℓ : Loc nD τ sig} (f : Buf (Elt F) ℓ) :
    ∀ (n : ℕ) (q : PosShare TreeShare), (ℓ ↦{q} f : sProp 𝕄) = bigSep Finset.univ fun i : Fin (n + 1) => ℓ ↦{cut n q i} f
  | 0, q => (bigSep_univ_of_subsingleton (0 : Fin 1) (Φ := fun i : Fin 1 => (ℓ ↦{cut 0 q i} f : sProp 𝕄))).symm
  | n + 1, q => by
    rw [bigSep_first]
    show _ = iprop((ℓ ↦{q.left} f) ∗ bigSep Finset.univ fun i : Fin (n + 1) => ℓ ↦{cut n q.right i} f)
    rw [← pts_cut f n q.right]
    exact BI.Entails.antisymm (pointsTo_share (PosShare.mem_left_op_right q)).1 (pointsTo_share (PosShare.mem_left_op_right q)).2

/-! ## The result and its chunks -/

/-- The elements of one plane of one chunk of one tile. -/
def outSet (i : Fin 2 × Fin 16 × Fin 16 × Fin 3) : Finset S16x3x512x512.Idx := (outRef (coordsV i.1 i.2.1) i.2.2.1 i.2.2.2).view.set

theorem mem_outSet' (i : Fin 2 × Fin 16 × Fin 16 × Fin 3) (x : S16x3x512x512.Idx) :
    x ∈ outSet i ↔ (x 0).val = i.2.1.val ∧ (x 1).val = i.2.2.2.val ∧ (x 2).val / 256 = i.1.val ∧ (x 2).val % 256 / 16 = i.2.2.1.val := by
  refine (mem_outSet (coordsV i.1 i.2.1) i.2.2.1 i.2.2.2 x).trans ?_
  have h1 := i.1.isLt
  have h2 := i.2.2.1.isLt
  constructor
  · intro ⟨h0, h1, h2, h3⟩
    have h2 : 256 * i.1.val + 16 * i.2.2.1.val ≤ (x 2).val := h2
    have h3 : (x 2).val < 256 * i.1.val + 16 * i.2.2.1.val + 16 := h3
    exact ⟨h0, h1, by omega, by omega⟩
  · intro ⟨h0, h1, h2, h3⟩
    refine ⟨h0, h1, ?_, ?_⟩
    · show 256 * i.1.val + 16 * i.2.2.1.val ≤ (x 2).val
      omega
    · show (x 2).val < 256 * i.1.val + 16 * i.2.2.1.val + 16
      omega

theorem outSet_disj (i i' : Fin 2 × Fin 16 × Fin 16 × Fin 3) (h : i ≠ i') : Disjoint (outSet i) (outSet i') := by
  refine Finset.disjoint_left.mpr fun x hx hx' => h ?_
  obtain ⟨h0, h1, h2, h3⟩ := (mem_outSet' i x).mp hx
  obtain ⟨g0, g1, g2, g3⟩ := (mem_outSet' i' x).mp hx'
  exact Prod.ext (Fin.ext (h2.symm.trans g2)) (Prod.ext (Fin.ext (h0.symm.trans g0))
    (Prod.ext (Fin.ext (h3.symm.trans g3)) (Fin.ext (h1.symm.trans g1))))

/-- Sets among which every point has one fill the type. -/
theorem cover {I X : Type*} [Fintype I] [Fintype X] [DecidableEq X] (A : I → Finset X) (h : ∀ x, ∃ i, x ∈ A i) :
    Finset.univ.biUnion A = Finset.univ := by
  ext x
  simpa using h x

theorem outSet_mem (x : S16x3x512x512.Idx) : ∃ i, x ∈ outSet i := by
  have h0 : (x 0).val < 16 := (x 0).isLt
  have h1 : (x 1).val < 3 := (x 1).isLt
  have h2 : (x 2).val < 512 := (x 2).isLt
  have a2 : (x 2).val / 256 < 2 := by omega
  have a3 : (x 2).val % 256 / 16 < 16 := by omega
  exact ⟨_, (mem_outSet' (⟨_, a2⟩, ⟨_, h0⟩, ⟨_, a3⟩, ⟨_, h1⟩) x).mpr ⟨rfl, rfl, rfl, rfl⟩⟩

theorem outSet_cover : Finset.univ.biUnion outSet = Finset.univ := cover outSet outSet_mem

/-! ## The arrays -/

abbrev xLoc (d : Dev nD) : Loc nD τ sig := (SparseCore.T d).loc main_arg0
abbrev kLoc (d : Dev nD) : Loc nD τ sig := (SparseCore.T d).loc main_arg1
abbrev cLoc (d : Dev nD) : Loc nD τ sig := (SparseCore.T d).loc main_v0
abbrev oLoc (d : Dev nD) : Loc nD τ sig := (SparseCore.T d).loc main_v1

/-- The share of `x` and of the table of tile `s` of core `c`. -/
def tq (c : Fin 2) (s : Fin 16) : PosShare TreeShare := cut 15 (cut 1 fullShare c) s

section Run

variable [FloatOps F]

/-- What tile `s` of core `c` holds of the arrays, the result at `f`. -/
def tilePts (d : Dev nD) (x : Buf (Elt F) (xLoc d)) (t : Buf (Elt F) (cLoc d)) (f : Buf (Elt F) (oLoc d)) (c : Fin 2) (s : Fin 16) : sProp 𝕄 :=
  tileHas d (coordsV c s) x t (tq c s) f

theorem out_tiles (d : Dev nD) (f : Buf (Elt F) (oLoc d)) :
    (oLoc d ↦{fullShare} f : sProp 𝕄)
      = bigSep Finset.univ fun c : Fin 2 => bigSep Finset.univ fun s : Fin 16 => bigSep Finset.univ fun j => OutAt d (coordsV c s) f j := by
  have e : (oLoc d ↦{fullShare} f : sProp 𝕄) = bigSep Finset.univ fun i => oLoc d ↦[outSet i]{fullShare} f := by
    rw [← pointsTo_biUnion Finset.univ (ℓ := oLoc d) outSet (fun i _ j _ => outSet_disj i j), outSet_cover]
  rw [e, bigSep_univ_prod]
  refine bigSep_congr fun c _ => ?_
  rw [bigSep_univ_prod]
  refine bigSep_congr fun s _ => ?_
  rw [bigSep_univ_prod]
  refine bigSep_congr fun j _ => ?_
  rw [bigSep_three]
  rfl

theorem share_tiles {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [pts_cut f 1 fullShare]
  exact bigSep_congr fun c _ => pts_cut f 15 _

/-- The three arrays whole are the tiles' parts. -/
theorem all_tiles (d : Dev nD) (x : Buf (Elt F) (xLoc d)) (t : Buf (Elt F) (cLoc d)) (f : Buf (Elt F) (oLoc d)) :
    (bigSep Finset.univ fun c : Fin 2 => bigSep Finset.univ fun s : Fin 16 => tilePts d x t f c s)
      = (iprop((xLoc d ↦{fullShare} x) ∗ (cLoc d ↦{fullShare} t) ∗ oLoc d ↦{fullShare} f) : sProp 𝕄) := by
  rw [share_tiles x, share_tiles t, out_tiles d f]
  rw [← bigSep_sep', ← bigSep_sep']
  refine bigSep_congr fun c _ => ?_
  rw [← bigSep_sep', ← bigSep_sep']
  rfl

variable (m : (ℓ : Loc nD τ sig) → Buf (Elt F) ℓ) (ρ : Dev nD → PrngReg)

/-- The table as the tiles read it: `colors`, flattened. -/
def tab (d : Dev nD) : Buf (Elt F) (cLoc d) := fun i => shapeCast S768 (m (kLoc d)) shapeCasts_S3x256_S768 i

/-- The result the program leaves. -/
def res (d : Dev nD) : Buf (Elt F) (oLoc d) := target (F := F) (m (xLoc d)) (tab m d)

/-- Tile `s` of core `c` at its start, -/
@[irreducible] def before (d : Dev nD) (c : Fin 2) (s : Fin 16) : sProp 𝕄 := tilePts d (m (xLoc d)) (tab m d) (m (oLoc d)) c s
/-- and at its end. -/
@[irreducible] def afterT (d : Dev nD) (c : Fin 2) (s : Fin 16) : sProp 𝕄 := tilePts d (m (xLoc d)) (tab m d) (res m d) c s

theorem before_eq (d : Dev nD) (c : Fin 2) (s : Fin 16) :
    before m d c s = tileHas d (coordsV c s) (m (xLoc d)) (tab m d) (tq c s) (m (oLoc d)) := by unfold before; rfl
theorem afterT_eq (d : Dev nD) (c : Fin 2) (s : Fin 16) :
    afterT m d c s = tileHas d (coordsV c s) (m (xLoc d)) (tab m d) (tq c s) (res m d) := by unfold afterT; rfl

instance before_storable (d : Dev nD) (c : Fin 2) (s : Fin 16) : BI.Storable (upEmb : UEmb _ 𝕄) (before m d c s) := by
  unfold before tilePts tileHas OutAt; infer_instance
instance afterT_storable (d : Dev nD) (c : Fin 2) (s : Fin 16) : BI.Storable (upEmb : UEmb _ 𝕄) (afterT m d c s) := by
  unfold afterT tilePts tileHas OutAt; infer_instance

/-- The one call takes each core its tiles' parts of `x`, of the table and of the result, and brings them back with the
    result's at their values. -/
def P : (K (F := F)).Pay (nD := nD) (Val := Elt F) (Name := ℕ) (U := UU) where
  st := fun q d c => match q with | 0 => bigSep Finset.univ fun s => before m d (Fin.cast nCore_zero c) s
  dn := fun q d c => match q with | 0 => bigSep Finset.univ fun s => afterT m d (Fin.cast nCore_zero c) s
  go := fun q d c i => match q with | 0 => before m d (Fin.cast nCore_zero c) (Fin.cast nSub_zero i)
  td := fun q d c i => match q with | 0 => afterT m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s => before m d (Fin.cast nCore_zero c) s))
  dn q d c := match q with
    | 0 => (inferInstance : BI.Storable (upEmb : UEmb _ 𝕄) (bigSep Finset.univ fun s => afterT m d (Fin.cast nCore_zero c) s))
  go q d c i := match q with | 0 => before_storable m d _ _
  td q d c i := match q with | 0 => afterT_storable m d _ _

/-! ## The obligation of a tile -/

theorem defs₀_vector (c : Fin τ.nSC) (s : Fin τ.nSub) :
    defs₀ (F := F) (.scVector c s) 0 () = SparseCore.onTile hcore0 hsub0 (fun c s => printed (coordsV c s)) ⟨⟩ c s := rfl

theorem obl_post {θ : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes θ O W')
      ⊢ iprop(A ∗ B ∗ C ∗ ∃ W', ⌜∀ p ∈ W', p ∈ W ∨ p.2 = none ∨ p.2 = some q⌝ ∗ owes θ O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [show (P m).go 0 d c i = tileHas d (coordsV ⟨_, hci.1⟩ ⟨_, hci.2⟩) (m (xLoc d)) (tab m d) (tq ⟨_, hci.1⟩ ⟨_, hci.2⟩) (m (oLoc d)) from
      before_eq m d (Fin.cast nCore_zero c) (Fin.cast nSub_zero i),
    show (P m).td 0 d c i = tileHas d (coordsV ⟨_, hci.1⟩ ⟨_, hci.2⟩) (m (xLoc d)) (tab m d) (tq ⟨_, hci.1⟩ ⟨_, hci.2⟩) (res m d) from
      afterT_eq m d (Fin.cast nCore_zero c) (Fin.cast nSub_zero i)]
  exact (tile_body d (coordsV ⟨_, hci.1⟩ ⟨_, hci.2⟩) (m (xLoc d)) (tab m d) (m (oLoc d)) (tq ⟨_, hci.1⟩ ⟨_, hci.2⟩) hF O W hO).trans
    (wp_mono frame _ _ fun _ => obl_post)

/-! ## The launch -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show (bigSep Finset.univ fun s => before m d (Fin.cast nCore_zero c) s) ⊢ |={Set.univ}=> iprop(
      (bigSep Finset.univ fun i : Fin ((K (F := F)).nSub 0) => before m d (Fin.cast nCore_zero c) (Fin.cast nSub_zero i))
      ∗ ((bigSep Finset.univ fun i : Fin ((K (F := F)).nSub 0) => afterT m d (Fin.cast nCore_zero c) (Fin.cast nSub_zero i))
          -∗ bigSep Finset.univ fun s => afterT m d (Fin.cast nCore_zero c) s))
  rw [bigSep_tasks (F := F) (before m d (Fin.cast nCore_zero c)), bigSep_tasks (F := F) (afterT m d (Fin.cast nCore_zero c))]
  iintro H; imodintro
  isplitl [H]; · iexact H
  iintro H; iexact H

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun θ : Thread nD τ => bigSep Finset.univ fun q : Fin 1 => (P m).x q θ) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun θ : Thread nD τ => bigSep Finset.univ fun q : Fin 1 => (P (F := F) m).x q θ) = bigSep Finset.univ fun _ => iprop(emp) from
    bigSep_congr fun _ _ => bigSep_univ_of_subsingleton (0 : Fin 1), bigSep_none]
  iempintro

/-! ## The host's part -/

theorem unscopedBufs_eq (d : Dev nD) (W : (b : Ref sig .tc) → Buf (Elt F) ((d.tc : Thread nD τ).loc b)) :
    (unscopedBufs d W : sProp 𝕄) = iprop((xLoc d ↦{fullShare} W main_arg0) ∗ (kLoc d ↦{fullShare} W main_arg1)
      ∗ (cLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The buffers of the host's one step. -/
abbrev flatRefs : Finset (DevRef τ sig) := {Proc.devRef .tc main_arg1, Proc.devRef .tc main_v0}

theorem held_flat (d : Dev nD) (W : Valuation τ sig (Elt F)) :
    (StableHlo.held (SparseCore.T d) flatRefs W : sProp 𝕄)
      = iprop((kLoc d ↦{fullShare} W (Proc.devRef .tc main_arg1)) ∗ cLoc d ↦{fullShare} W (Proc.devRef .tc main_v0)) := by
  unfold StableHlo.held flatRefs
  rw [SparseCore.bigSep_insert' (by decide), bigSep_singleton]

/-- The host's one step: the table is `colors`, flattened. -/
theorem held_flattened (d : Dev nD) :
    (StableHlo.held (SparseCore.T d) flatRefs
        ((StableHlo.reshape main_arg1 main_v0 (rfl : (.f32 : EltTy) = .f32) shapeCasts_S3x256_S768).result fun b => m (d, b)) : sProp 𝕄)
      = iprop((kLoc d ↦{fullShare} m (kLoc d)) ∗ cLoc d ↦{fullShare} tab m d) := by
  rw [held_flat, StableHlo.reshape_result, StableHlo.reshape_result_ne (h := by decide)]
  rfl

theorem st0_eq (d : Dev nD) : (bigSep Finset.univ fun c : Fin ((K (F := F)).nCore 0) => (P m).st 0 d c)
    = iprop((xLoc d ↦{fullShare} m (xLoc d)) ∗ (cLoc d ↦{fullShare} tab m d) ∗ oLoc d ↦{fullShare} m (oLoc d)) :=
  (bigSep_cores (F := F) fun c => bigSep Finset.univ fun s => before m d c s).trans (by unfold before; exact all_tiles d _ _ _)
theorem dn0_eq (d : Dev nD) : (bigSep Finset.univ fun c : Fin ((K (F := F)).nCore 0) => (P m).dn 0 d c)
    = iprop((xLoc d ↦{fullShare} m (xLoc d)) ∗ (cLoc d ↦{fullShare} tab m d) ∗ oLoc d ↦{fullShare} res m d) :=
  (bigSep_cores (F := F) fun c => bigSep Finset.univ fun s => afterT m d c s).trans (by unfold afterT; exact all_tiles d _ _ _)

/-- What the run leaves known: the arguments unchanged, the result at its value. -/
abbrev FIN (d : Dev nD) : sProp 𝕄 :=
  iprop((xLoc d ↦{fullShare} m (xLoc d)) ∗ (kLoc d ↦{fullShare} m (kLoc d)) ∗ oLoc d ↦{fullShare} res m d)

/-- The host's program: flatten `colors`, run the tiles. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hk, Hc, Ho⟩, Hts, -⟩, -⟩
  iapply (StableHlo.wp_hlo_within 𝒱 (SparseCore.T d) none Set.univ (S := flatRefs) (V := fun b => m (d, b)) (Finset.Subset.refl _)) $$ [Hb Hk Hc]
  · isplitl [Hb]; · iexact Hb
    rw [held_flat]
    isplitl [Hk] <;> iassumption
  iintro ⟨Hb, H⟩
  ihave H := (Entails.of_eq (held_flattened m d)) $$ H
  icases H with ⟨Hk, Hc⟩
  rw [wp_ret]
  imodintro
  iapply ((K (F := F)).wp_run (D (F := F)) 𝒱 (EH := EH) (P := P m) κ d 0) $$ [Hst Hx Hk Hc Ho Hb Hts]
  isplitr; · iexact Hctx
  isplitl [Hst]; · iexact Hst
  isplitl [Hx Hc Ho]
  · rw [st0_eq]
    isplitl [Hx]; · iexact Hx
    isplitl [Hc]; · iexact Hc
    iexact Ho
  iintro ⟨Hst, Hdn⟩
  ihave Hdn' := (Entails.of_eq (dn0_eq m d)) $$ Hdn
  icases Hdn' with ⟨Hx, -, Ho⟩
  imodintro
  isplitl [Hst]; · iexact Hst
  isplitr [Hb Hts]
  · isplitl [Hx]; · iexact Hx
    isplitl [Hk]; · iexact Hk
    iexact Ho
  isplitl [Hb] <;> iassumption

def fq (d : Dev nD) (s' : Phys nD τ sig (Elt F)) : Prop :=
  s'.mem.mem (oLoc d) = res m d ∧ s'.mem.mem (xLoc d) = m (xLoc d) ∧ s'.mem.mem (kLoc d) = m (kLoc d)

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hx, Hk, Ho⟩, HSI⟩
  ihave H := (agree s' (xLoc d) _) $$ [HSI Hx]
  · isplitl [Hx] <;> iassumption
  icases H with ⟨%h1, HSI⟩
  ihave H := (agree s' (kLoc d) _) $$ [HSI Hk]
  · isplitl [Hk] <;> iassumption
  icases H with ⟨%h2, HSI⟩
  ihave H := (agree s' (oLoc d) _) $$ [HSI Ho]
  · isplitl [Ho] <;> iassumption
  icases H with ⟨%h3, HSI⟩
  ipureintro; exact ⟨h3, h1, h2⟩

/-- The end of a run: the result at its value, the arguments unchanged, every semaphore at zero. -/
def QC : PUnit × MemSt nD τ sig (Elt F) → Prop := fun r =>
  (∀ c : Dev nD, r.2.mem (oLoc c) = res m c ∧ r.2.mem (xLoc c) = m (xLoc c) ∧ r.2.mem (kLoc c) = m (kLoc c)) ∧ r.2.sem = fun _ => 0

/-- Every run of the program ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Proof.Body

end
-- ==== Proof.Value.lean ====
/-
  The reference's value: the number of keys below a word is the word clipped, so its gather and transposition give the
  array the program leaves.
-/
module

public import proofs.«01_k».proof.Proof.Places
public import proofs.«01_k».proof.Proof.Gen.ReferenceIdeal
public import proofs.«01_k».proof.Proof.Gen.ReferenceIdeal.Run
public import Idealize.ShloMosaic.Lib.StableHlo.Predicate
public import Idealize.ShloMosaic.Lib.Pipeline.Value

@[expose] public section

noncomputable section

namespace Cert.Proof.Value

open Cert.ReferenceIdeal Cert.ReferenceIdeal.Gen
open Idealize.ShloMosaic Idealize.ShloMosaic.ValueIdx
open Cert.Proof.Body (clipW clipW_toNat clipW_lt cell target)

variable {F : FTy → Type}

/-! ## The reference's stages -/

/-- `keys < x`, key by key along the last axis. -/
def below (x : S16x1x512x512.Idx → BitVec 32) : IVec S16x512x512x255 1 :=
  cmpi .slt (broadcastInDim S16x512x512x255 ![0, 1, 2, 3] bcast_S1x1x1x255_S16x512x512x255_0_1_2_3 (broadcastInDim S1x1x1x255 ![3] bcast_S255_S1x1x1x255_3 (iotaInDim S255 32 0)))
    (broadcastInDim S16x512x512x255 ![0, 1, 2, 3] bcast_S16x512x512x1_S16x512x512x255_0_1_2_3 (broadcastInDim S16x512x512x1 ![0, 1, 2] bcast_S16x512x512_S16x512x512x1_0_1_2
      (shapeCast S16x512x512 x shapeCasts_S16x1x512x512_S16x512x512)))

/-- How many keys lie below each word. -/
def count (x : S16x1x512x512.Idx → BitVec 32) : IVec S16x512x512 32 :=
  Host.reduce IntOp.addi (extui 32 (below x) natLt_1_32) (constantI S_ 32 0#32) reducesTo_S16x512x512x255_S16x512x512_d3 h_S_

/-- The column each place reads: the count, with 256 added where it is negative. -/
def column (x : S16x1x512x512.Idx → BitVec 32) : IVec S16x512x512 32 :=
  select (cmpi .slt (count x) (broadcastInDim S16x512x512 ![] bcast_S_S16x512x512 (constantI S_ 32 0#32)))
    (addi (count x) (broadcastInDim S16x512x512 ![] bcast_S_S16x512x512 (constantI S_ 32 256#32))) (count x)

/-- The reference's result. -/
def value (x : S16x1x512x512.Idx → BitVec 32) (k : S3x256.Idx → F .f32) : S16x3x512x512.Idx → F .f32 :=
  transpose S16x3x512x512 [1, 0, 2, 3] (Host.gather gather_S3x256_S16x512x512x1_S3x16x512x512_0_1_n_n_1_3_31 k
    (broadcastInDim S16x512x512x1 ![0, 1, 2] bcast_S16x512x512_S16x512x512x1_0_1_2 (column x))) transposes_S3x16x512x512_S16x3x512x512_1_0_2_3

/-! ## Each stage at a place -/

/-- Adding a last axis of size one changes no entry. -/
theorem widen_apply {α : Type} (v : S16x512x512.Idx → α) (a : Fin 16) (b c : Fin 512) :
    broadcastInDim S16x512x512x1 ![0, 1, 2] bcast_S16x512x512_S16x512x512x1_0_1_2 v (ix4 a b c (0 : Fin 1)) = v (ix3 a b c) := by
  refine broadcastInDim_apply _ _ v _ _ fun e => ?_
  match e with
  | 0 => rfl
  | 1 => rfl
  | 2 => rfl

theorem squeeze_apply {α : Type} (x : S16x1x512x512.Idx → α) (a : Fin 16) (b c : Fin 512) :
    shapeCast S16x512x512 x shapeCasts_S16x1x512x512_S16x512x512 (ix3 a b c) = x (ix4 a (0 : Fin 1) b c) := by
  refine shapeCast_apply x _ _ _ ?_
  rw [Shape.rowMajor_val_four, Shape.rowMajor_val_three]
  show ((a.val * 1 + 0) * 512 + b.val) * 512 + c.val = (a.val * 512 + b.val) * 512 + c.val
  omega

theorem keys_apply (a : Fin 16) (b c : Fin 512) (q : Fin 255) :
    broadcastInDim S16x512x512x255 ![0, 1, 2, 3] bcast_S1x1x1x255_S16x512x512x255_0_1_2_3
      (broadcastInDim S1x1x1x255 ![3] bcast_S255_S1x1x1x255_3 (iotaInDim S255 32 0)) (ix4 a b c q) = BitVec.ofNat 32 q.val := by
  refine (broadcastInDim_apply _ _ _ _ (ix4 (0 : Fin 1) (0 : Fin 1) (0 : Fin 1) q) fun e => ?_).trans ?_
  · match e with
    | 0 => rfl
    | 1 => rfl
    | 2 => rfl
    | 3 => rfl
  refine (broadcastInDim_apply _ _ _ _ (ix1 q) fun e => ?_).trans rfl
  match e with
  | 0 => rfl

theorem words_apply (x : S16x1x512x512.Idx → BitVec 32) (a : Fin 16) (b c : Fin 512) (q : Fin 255) :
    broadcastInDim S16x512x512x255 ![0, 1, 2, 3] bcast_S16x512x512x1_S16x512x512x255_0_1_2_3
      (broadcastInDim S16x512x512x1 ![0, 1, 2] bcast_S16x512x512_S16x512x512x1_0_1_2
        (shapeCast S16x512x512 x shapeCasts_S16x1x512x512_S16x512x512)) (ix4 a b c q) = x (ix4 a (0 : Fin 1) b c) := by
  refine (broadcastInDim_apply _ _ _ _ (ix4 a b c (0 : Fin 1)) fun e => ?_).trans ((widen_apply _ a b c).trans (squeeze_apply x a b c))
  match e with
  | 0 => rfl
  | 1 => rfl
  | 2 => rfl
  | 3 => rfl

theorem below_apply (x : S16x1x512x512.Idx → BitVec 32) (a : Fin 16) (b c : Fin 512) (q : Fin 255) :
    below x (ix4 a b c q) = 1#1 ↔ (q.val : Int) < (x (ix4 a (0 : Fin 1) b c)).toInt := by
  have e : below x (ix4 a b c q) = IntOp.cmpi .slt (BitVec.ofNat 32 q.val) (x (ix4 a (0 : Fin 1) b c)) :=
    congrArg₂ (IntOp.cmpi .slt) (keys_apply a b c q) (words_apply x a b c q)
  have hq := q.isLt
  have hn : (BitVec.ofNat 32 q.val).toInt = q.val := by
    rw [BitVec.toInt_eq_toNat_cond, BitVec.toNat_ofNat]; split_ifs <;> omega
  rw [e]
  simp only [IntOp.cmpi, StableHlo.Predicate.ofBool_eq_one_iff, BitVec.slt_eq_decide, decide_eq_true_eq, hn]

/-- How many of the keys 0..254 lie below a word: the word, clipped. -/
theorem card_below (v : BitVec 32) : (Finset.univ.filter fun q : Fin 255 => (q.val : Int) < v.toInt).card = (clipW v).toNat := by
  have e : (Finset.univ.filter fun q : Fin 255 => (q.val : Int) < v.toInt) = Finset.univ.filter fun q : Fin 255 => q.val < v.toInt.toNat :=
    Finset.filter_congr fun q _ => by omega
  rw [e, Fin.card_filter_val_lt, clipW_toNat]
  have h := BitVec.toInt_eq_toNat_cond v
  have hv := v.isLt
  split_ifs at * <;> omega

/-- The places of one word's keys. -/
theorem drop_iff (h : S16x512x512x255.ReducesTo [3] S16x512x512) (a : Fin 16) (b c : Fin 512) (i : S16x512x512x255.Idx) :
    h.drop i = ix3 a b c ↔ i 0 = a ∧ i 1 = b ∧ i 2 = c := by
  have h0 : (h.drop i 0).val = (i 0).val := Shape.ReducesTo.drop_apply_val h i 0
  have h1 : (h.drop i 1).val = (i 1).val := Shape.ReducesTo.drop_apply_val h i 1
  have h2 : (h.drop i 2).val = (i 2).val := Shape.ReducesTo.drop_apply_val h i 2
  constructor
  · intro e
    rw [e] at h0 h1 h2
    exact ⟨Fin.ext h0.symm, Fin.ext h1.symm, Fin.ext h2.symm⟩
  · rintro ⟨e0, e1, e2⟩
    funext d
    match d with
    | 0 => exact Fin.ext (h0.trans (congrArg Fin.val e0))
    | 1 => exact Fin.ext (h1.trans (congrArg Fin.val e1))
    | 2 => exact Fin.ext (h2.trans (congrArg Fin.val e2))

theorem key_eta (a : Fin 16) (b c : Fin 512) (i : S16x512x512x255.Idx) (hi : i 0 = a ∧ i 1 = b ∧ i 2 = c) : ix4 a b c (i 3) = i := by
  funext d
  match d with
  | 0 => exact hi.1.symm
  | 1 => exact hi.2.1.symm
  | 2 => exact hi.2.2.symm
  | 3 => rfl

/-- A sum of bits along the last axis counts the bits set. -/
theorem sum_last (msk : IVec S16x512x512x255 1) (a : Fin 16) (b c : Fin 512) :
    (Host.reduce IntOp.addi (extui 32 msk natLt_1_32) (constantI S_ 32 0#32) reducesTo_S16x512x512x255_S16x512x512_d3 h_S_ (ix3 a b c)).toNat
      = (Finset.univ.filter fun q : Fin 255 => msk (ix4 a b c q) = 1#1).card := by
  classical
  rw [Host.reduce_eq_fold]
  have hsum : ∑ i ∈ Finset.univ.filter (fun i : S16x512x512x255.Idx => reducesTo_S16x512x512x255_S16x512x512_d3.drop i = ix3 a b c), (extui 32 msk natLt_1_32 i).toNat
      = (Finset.univ.filter fun q : Fin 255 => msk (ix4 a b c q) = 1#1).card := by
    rw [Finset.card_filter]
    refine Finset.sum_bij' (fun i _ => (i 3 : Fin 255)) (fun q _ => ix4 a b c q) (fun _ _ => Finset.mem_univ _)
      (fun q _ => Finset.mem_filter.2 ⟨Finset.mem_univ _, (drop_iff _ a b c _).2 ⟨rfl, rfl, rfl⟩⟩)
      (fun i hi => key_eta a b c i ((drop_iff _ a b c i).1 (Finset.mem_filter.1 hi).2)) (fun _ _ => rfl) fun i hi => ?_
    exact (StableHlo.Predicate.toNat_setWidth_bit (msk i)).trans
      (congrArg (fun z => if msk z = 1#1 then 1 else 0) (key_eta a b c i ((drop_iff _ a b c i).1 (Finset.mem_filter.1 hi).2)).symm)
  refine (StableHlo.Predicate.toNat_fold_addi _ _ ?_).trans hsum
  rw [hsum]
  exact lt_of_le_of_lt (Finset.card_le_univ _) (by simp)

theorem count_apply (x : S16x1x512x512.Idx → BitVec 32) (a : Fin 16) (b c : Fin 512) :
    count x (ix3 a b c) = clipW (x (ix4 a (0 : Fin 1) b c)) := by
  apply BitVec.eq_of_toNat_eq
  refine (sum_last (below x) a b c).trans ?_
  rw [← card_below]
  exact congrArg Finset.card (Finset.filter_congr fun q _ => below_apply x a b c q)

theorem clip_toInt (v : BitVec 32) : (clipW v).toInt = (clipW v).toNat := by
  have h := clipW_lt v
  rw [BitVec.toInt_eq_toNat_cond, if_pos (by omega)]

/-- The count is not negative, so it is the column. -/
theorem keep_nonneg (n z w : IVec S16x512x512 32) (i : S16x512x512.Idx) (hz : z i = 0#32) (hn : 0 ≤ (n i).toInt) :
    select (cmpi .slt n z) w n i = n i := by
  have e : IntOp.cmpi .slt (n i) (z i) = 0#1 := by
    rw [hz]
    refine eq_zero_of_ne_one fun h => ?_
    simp only [IntOp.cmpi, StableHlo.Predicate.ofBool_eq_one_iff, BitVec.slt_eq_decide, decide_eq_true_eq] at h
    have : (0#32 : BitVec 32).toInt = 0 := rfl
    omega
  exact congrArg (fun p => Scalar.select p (w i) (n i)) e

theorem column_apply (x : S16x1x512x512.Idx → BitVec 32) (a : Fin 16) (b c : Fin 512) :
    column x (ix3 a b c) = clipW (x (ix4 a (0 : Fin 1) b c)) := by
  refine (keep_nonneg (count x) _ _ (ix3 a b c) ?_ ?_).trans (count_apply x a b c)
  · exact broadcastInDim_apply _ _ _ _ (Shape.Idx.first h_S_) fun e => e.elim0
  · rw [count_apply, clip_toInt]; omega

theorem zero_notMem : ¬(0 : Fin 2) ∈ ([1] : List (Fin 2)) := by decide

/-- The gather's dimension numbers. -/
abbrev dims := gather_S3x256_S16x512x512x1_S3x16x512x512_0_1_n_n_1_3_31

/-- The gather reads the table at its own plane and at the column named, clamped to the last. -/
theorem gather_apply {α : Type} (k : S3x256.Idx → α) (idx : IVec S16x512x512x1 32) (ch : Fin 3) (a : Fin 16) (b c : Fin 512) :
    Host.gather dims k idx (ix4 ch a b c)
      = k (ix2 ch (⟨min (idx (ix4 a b c (0 : Fin 1))).toInt.toNat 255, by omega⟩ : Fin 256)) := by
  unfold Host.gather
  congr 1
  funext d
  refine Fin.ext ?_
  show GatherDims.start _ (ix4 ch a b c) idx d + GatherDims.batchCoord _ (ix4 ch a b c) d + GatherDims.offCoord _ (ix4 ch a b c) d = _
  rw [GatherDims.batchCoord_eq_zero _ _ _ List.not_mem_nil]
  match d with
  | 0 =>
    unfold GatherDims.start GatherDims.offCoord
    rw [dif_neg (show ¬(0 : Fin 2) ∈ dims.startIndexMap from zero_notMem),
      dif_pos ((GatherDims.mem_sKept _ _).mpr ⟨zero_notMem, List.not_mem_nil⟩)]
    show 0 + 0 + ch.val = ch.val
    omega
  | 1 =>
    rw [GatherDims.offCoord_eq_zero _ _ _ (fun h => ((GatherDims.mem_sKept _ _).mp h).1 (List.mem_singleton.mpr rfl))]
    unfold GatherDims.start
    rw [dif_pos (show (1 : Fin 2) ∈ dims.startIndexMap from List.mem_singleton.mpr rfl)]
    have hsi : GatherDims.siIdx dims (ix4 ch a b c)
        ⟨List.idxOf (1 : Fin 2) ([1] : List (Fin 2)), List.idxOf_lt_length_iff.2 (List.mem_singleton.mpr rfl)⟩ = ix4 a b c (0 : Fin 1) := by
      funext e
      refine Fin.ext ?_
      match e with
      | 0 => rfl
      | 1 => rfl
      | 2 => rfl
      | 3 => rfl
    refine (show _ = min (idx (GatherDims.siIdx dims (ix4 ch a b c)
        ⟨List.idxOf (1 : Fin 2) ([1] : List (Fin 2)), List.idxOf_lt_length_iff.2 (List.mem_singleton.mpr rfl)⟩)).toInt.toNat 255 from rfl).trans ?_
    rw [hsi]

/-- The flattened table at plane `ch` and column `n` is the table there. -/
theorem flat_apply {α : Type} (k : S3x256.Idx → α) (h : S3x256.ShapeCasts ⟨1, ![768]⟩) (ch : Fin 3) (n : Nat) (hn : n < 256) (hc : 256 * ch.val + n < 768) :
    shapeCast ⟨1, ![768]⟩ k h (ix1 (⟨256 * ch.val + n, hc⟩ : Fin 768)) = k (ix2 ch (⟨n, hn⟩ : Fin 256)) := by
  refine shapeCast_apply k h _ _ ?_
  rw [Shape.rowMajor_val_two, Shape.rowMajor_val_one]
  show ch.val * 256 + n = 256 * ch.val + n
  omega

/-- The reference's result is the program's: each plane of the table at the word clipped. -/
theorem value_eq (x : S16x1x512x512.Idx → BitVec 32) (k : S3x256.Idx → F .f32) (h : S3x256.ShapeCasts ⟨1, ![768]⟩) :
    value x k = target x (shapeCast ⟨1, ![768]⟩ k h) := by
  funext o
  refine (transpose_apply _ _ _ o (ix4 (o 1) (o 0) (o 2) (o 3)) fun d => ?_).trans ?_
  · match d with
    | 0 => rfl
    | 1 => rfl
    | 2 => rfl
    | 3 => rfl
  refine (gather_apply k _ (o 1) (o 0) (o 2) (o 3)).trans ?_
  have e := (widen_apply (column x) (o 0) (o 2) (o 3)).trans (column_apply x (o 0) (o 2) (o 3))
  have hl := clipW_lt (x (ix4 (o 0) (0 : Fin 1) (o 2) (o 3)))
  refine Eq.trans ?_ (flat_apply k h (o 1) (clipW (x (ix4 (o 0) (0 : Fin 1) (o 2) (o 3)))).toNat hl _).symm
  refine congrArg k (congrArg (ix2 (o 1)) (Fin.ext ?_))
  show min (_ : BitVec 32).toInt.toNat 255 = (clipW (x (ix4 (o 0) (0 : Fin 1) (o 2) (o 3)))).toNat
  rw [e, clip_toInt]
  omega

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The program keeps its arguments and every semaphore ends at zero: its run, at the machine's floats. -/
theorem frame_kernel : Cert.quiescent_Kernel := fun m ρ _ =>
  (θ_run Cert.KernelIdeal.defs _ _).mono (fun _ h => ⟨fun c => ⟨(h.1 c).2.1, (h.1 c).2.2⟩, h.2⟩) (Body.run_main (F := Bits) m ρ)

/-- The same of its idealization: the same run, at the extended reals. -/
theorem frame_kernelIdeal : Cert.quiescent_KernelIdeal := fun m ρ _ =>
  (θ_run Cert.KernelIdeal.defs _ _).mono (fun _ h => ⟨fun c => ⟨(h.1 c).2.1, (h.1 c).2.2⟩, h.2⟩) (Body.run_main (F := Ideal) m ρ)

/-- The reference keeps its arguments, and declares no semaphore. -/
theorem frame_referenceIdeal : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- The two results are equal: each is plane `o 1` of the table at the word for place `o`, clipped. -/
theorem algebraic : Cert.algebraic_KernelIdeal_ReferenceIdeal := fun m ρ m' ρ' _ hm =>
  ⟨Body.res m,
    (θ_run Cert.KernelIdeal.defs _ _).mono (fun _ h c => h.1 c) (Body.run_main (F := Ideal) m ρ),
    (θ_run Cert.ReferenceIdeal.defs _ _).mono
      (fun r h c => ⟨(h c).1.trans ((Value.value_eq (F := Ideal) _ _ Cert.KernelIdeal.Gen.shapeCasts_S3x256_S768).trans
        (congrArg₂ (fun x k => Body.target (F := Ideal) x (shapeCast Cert.KernelIdeal.S768 k Cert.KernelIdeal.Gen.shapeCasts_S3x256_S768)) (hm c).1 (hm c).2)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
